-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m ((c.tc : Thread Cert.KernelIdeal.nD Cert.KernelIdeal.τ).loc Cert.KernelIdeal.main_arg0) = Layout.blockN ⟨2, ![2048, 2048]⟩ ⟨2, ![4096, 2048]⟩ (Layout.meshBlock [2, 2] ![[1], []] c) (m' (((0 : Dev Cert.ReferenceIdeal.nD).tc : Thread Cert.ReferenceIdeal.nD Cert.ReferenceIdeal.τ).loc Cert.ReferenceIdeal.main_arg0))
      ∧ m ((c.tc : Thread Cert.KernelIdeal.nD Cert.KernelIdeal.τ).loc Cert.KernelIdeal.main_arg1) = Layout.blockN ⟨2, ![2048, 8192]⟩ ⟨2, ![4096, 8192]⟩ (Layout.meshBlock [2, 2] ![[1], []] c) (m' (((0 : Dev Cert.ReferenceIdeal.nD).tc : Thread Cert.ReferenceIdeal.nD Cert.ReferenceIdeal.τ).loc Cert.ReferenceIdeal.main_arg1))) →
    ∃ (v0 : Buf (Elt Ideal) (((0 : Dev Cert.ReferenceIdeal.nD).tc : Thread Cert.ReferenceIdeal.nD Cert.ReferenceIdeal.τ).loc Cert.ReferenceIdeal.main_v2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = Layout.blockN ⟨2, ![1024, 8192]⟩ ⟨2, ![2048, 8192]⟩ (Layout.meshBlock [2, 2] ![[1], []] c) v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v2) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0)
          ∧ r.2.mem (((0 : Dev Cert.ReferenceIdeal.nD).tc : Thread Cert.ReferenceIdeal.nD Cert.ReferenceIdeal.τ).loc Cert.ReferenceIdeal.main_arg1) = m' (((0 : Dev Cert.ReferenceIdeal.nD).tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S2048x2048 : Shape := ⟨2, ![2048, 2048]⟩
abbrev S2048x8192 : Shape := ⟨2, ![2048, 8192]⟩
abbrev S1024x8192 : Shape := ⟨2, ![1024, 8192]⟩
abbrev S2x512x2048 : Shape := ⟨3, ![2, 512, 2048]⟩
abbrev S3x2048x256 : Shape := ⟨3, ![3, 2048, 256]⟩
abbrev S4x2048x256 : Shape := ⟨3, ![4, 2048, 256]⟩
abbrev S4x1024x256 : Shape := ⟨3, ![4, 1024, 256]⟩
abbrev S16x1024x256 : Shape := ⟨3, ![16, 1024, 256]⟩
abbrev S2 : Shape := ⟨1, ![2]⟩
abbrev S3 : Shape := ⟨1, ![3]⟩
abbrev S4 : Shape := ⟨1, ![4]⟩
abbrev S16 : Shape := ⟨1, ![16]⟩
abbrev S_ : Shape := ⟨0, ![]⟩
abbrev S1 : Shape := ⟨1, ![1]⟩
abbrev S1x2048x256 : Shape := ⟨3, ![1, 2048, 256]⟩
abbrev S2048x256 : Shape := ⟨2, ![2048, 256]⟩
abbrev S1x512x2048 : Shape := ⟨3, ![1, 512, 2048]⟩
abbrev S512x2048 : Shape := ⟨2, ![512, 2048]⟩
abbrev S2048x1024 : Shape := ⟨2, ![2048, 1024]⟩
abbrev S1024x256 : Shape := ⟨2, ![1024, 256]⟩
abbrev S1x1024x256 : Shape := ⟨3, ![1, 1024, 256]⟩

abbrev nBuf : Space → Nat
  | .hbm => 3
  | .vmem => 7
  | .smem => 0
  | _ => 0

abbrev bufTy : (tb : Table) → Fin (tcTables nBuf tb) → BufTy
  | .hbm, ⟨0, _⟩ => ⟨S2048x2048, .f32⟩
  | .hbm, ⟨1, _⟩ => ⟨S2048x8192, .f32⟩
  | .hbm, ⟨2, _⟩ => ⟨S1024x8192, .bf16⟩
  | .local _ .vmem, ⟨0, _⟩ => ⟨S2048x2048, .bf16⟩
  | .local _ .vmem, ⟨1, _⟩ => ⟨S2x512x2048, .f32⟩
  | .local _ .vmem, ⟨2, _⟩ => ⟨S3x2048x256, .f32⟩
  | .local _ .vmem, ⟨3, _⟩ => ⟨S4x2048x256, .bf16⟩
  | .local _ .vmem, ⟨4, _⟩ => ⟨S4x1024x256, .bf16⟩
  | .local _ .vmem, ⟨5, _⟩ => ⟨S16x1024x256, .bf16⟩
  | .local _ .vmem, ⟨6, _⟩ => ⟨S16x1024x256, .bf16⟩
  | _, _ => ⟨S2048x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 1 → Bool
  | ⟨0, _⟩ => false
  | _ => false

abbrev dmaSemScoped : Fin 89 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | ⟨48, _⟩ => true
  | ⟨49, _⟩ => true
  | ⟨50, _⟩ => true
  | ⟨51, _⟩ => true
  | ⟨52, _⟩ => true
  | ⟨53, _⟩ => true
  | ⟨54, _⟩ => true
  | ⟨55, _⟩ => true
  | ⟨56, _⟩ => true
  | ⟨57, _⟩ => true
  | ⟨58, _⟩ => true
  | ⟨59, _⟩ => true
  | ⟨60, _⟩ => true
  | ⟨61, _⟩ => true
  | ⟨62, _⟩ => true
  | ⟨63, _⟩ => true
  | ⟨64, _⟩ => true
  | ⟨65, _⟩ => true
  | ⟨66, _⟩ => true
  | ⟨67, _⟩ => true
  | ⟨68, _⟩ => true
  | ⟨69, _⟩ => true
  | ⟨70, _⟩ => true
  | ⟨71, _⟩ => true
  | ⟨72, _⟩ => true
  | ⟨73, _⟩ => true
  | ⟨74, _⟩ => true
  | ⟨75, _⟩ => true
  | ⟨76, _⟩ => true
  | ⟨77, _⟩ => true
  | ⟨78, _⟩ => true
  | ⟨79, _⟩ => true
  | ⟨80, _⟩ => true
  | ⟨81, _⟩ => true
  | ⟨82, _⟩ => true
  | ⟨83, _⟩ => true
  | ⟨84, _⟩ => true
  | ⟨85, _⟩ => true
  | ⟨86, _⟩ => true
  | ⟨87, _⟩ => true
  | ⟨88, _⟩ => true
  | _ => false

abbrev sig : RefSig :=
  (ofTc nBuf bufTy 1 89 bufScoped semScoped dmaSemScoped tileCredit tileCredit_eq_zero tileCredit_pos).withBarriers [(0, 0)]

abbrev main_arg0 : Ref sig .tc := ⟨.hbm, 0, rfl⟩
abbrev main_arg1 : Ref sig .tc := ⟨.hbm, 1, rfl⟩
abbrev main_v1 : Ref sig .tc := ⟨.hbm, 2, rfl⟩
abbrev cc0_scratch0 : Ref sig .tc := ⟨.vmem, 0, rfl⟩
abbrev cc0_scratch1 : Ref sig .tc := ⟨.vmem, 1, rfl⟩
abbrev cc0_scratch2 : Ref sig .tc := ⟨.vmem, 2, rfl⟩
abbrev cc0_scratch3 : Ref sig .tc := ⟨.vmem, 3, rfl⟩
abbrev cc0_scratch4 : Ref sig .tc := ⟨.vmem, 4, rfl⟩
abbrev cc0_scratch5 : Ref sig .tc := ⟨.vmem, 5, rfl⟩
abbrev cc0_scratch6 : Ref sig .tc := ⟨.vmem, 6, rfl⟩
abbrev barrier0 : Sem sig := 0

abbrev nD : Nat := 4
abbrev τ : Topo := Topo.v7x

variable {F : FTy → Type} [FloatOps F]

abbrev grid0 : Pipeline.Grid := .none

def k0_dev1 (d0 : Dev nD) : Nat :=
  let c0_i32 : BitVec 32 := 0#32
  let c1_i32_2 : BitVec 32 := 1#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v6 : BitVec 32 := Scalar.subi c1_i32_2 v2
  let c2_i32_5 : BitVec 32 := 2#32
  let v9 : BitVec 32 := Scalar.muli v6 c2_i32_5
  let v10 : BitVec 32 := Scalar.addi c0_i32 v9
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c1_i32_6 : BitVec 32 := 1#32
  let v11 : BitVec 32 := Scalar.muli v5 c1_i32_6
  let v12 : BitVec 32 := Scalar.addi v10 v11
  v12.toNat
def k0_dev2 (d0 : Dev nD) : Nat :=
  let c0_i32_9 : BitVec 32 := 0#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c2_i32_8 : BitVec 32 := 2#32
  let v13 : BitVec 32 := Scalar.muli v2 c2_i32_8
  let v14 : BitVec 32 := Scalar.addi c0_i32_9 v13
  let c1_i32_3 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v7 : BitVec 32 := Scalar.subi c1_i32_3 v5
  let c1_i32_10 : BitVec 32 := 1#32
  let v15 : BitVec 32 := Scalar.muli v7 c1_i32_10
  let v16 : BitVec 32 := Scalar.addi v14 v15
  v16.toNat
def k0_off1 (d0 : Dev nD) (c0_i32_11 : BitVec 32) : Fin 2 → Nat :=
  let c0_i32_16 : BitVec 32 := 0#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c4096_i32 : BitVec 32 := 4096#32
  let v17 : BitVec 32 := Scalar.muli v2 c4096_i32
  let v18 : BitVec 32 := Scalar.addi v17 c0_i32_11
  ![0, v18.toNat]
def k0_off2 (d0 : Dev nD) : Fin 2 → Nat :=
  let c0_100 : Index := 0#32
  let c1_i32_98 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v110 : BitVec 32 := Scalar.subi c1_i32_98 v5
  let c1024_i32_99 : BitVec 32 := 1024#32
  let v111 : BitVec 32 := Scalar.muli v110 c1024_i32_99
  let v112 : Index := Scalar.indexCast v111
  ![0, v112.toNat]
def k0_off3 (d0 : Dev nD) : Fin 3 → Nat :=
  let c0_101 : Index := 0#32
  let c1_i32_98 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v110 : BitVec 32 := Scalar.subi c1_i32_98 v5
  let c1024_i32_99 : BitVec 32 := 1024#32
  let v111 : BitVec 32 := Scalar.muli v110 c1024_i32_99
  let v116 : Index := Scalar.indexCast v111
  let c0_102 : Index := 0#32
  ![0, v116.toNat, 0]
def k0_off4 (d0 : Dev nD) : Fin 3 → Nat :=
  let c0_i32_106 : BitVec 32 := 0#32
  let c1_i32_104 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v120 : BitVec 32 := Scalar.subi c1_i32_104 v5
  let c1024_i32_105 : BitVec 32 := 1024#32
  let v121 : BitVec 32 := Scalar.muli v120 c1024_i32_105
  let c0_i32_115 : BitVec 32 := 0#32
  ![0, v121.toNat, 0]
def k0_dev3 (d0 : Dev nD) : Nat :=
  let c0_i32_111 : BitVec 32 := 0#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c2_i32_110 : BitVec 32 := 2#32
  let v122 : BitVec 32 := Scalar.muli v2 c2_i32_110
  let v123 : BitVec 32 := Scalar.addi c0_i32_111 v122
  let c1_i32_3 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v7 : BitVec 32 := Scalar.subi c1_i32_3 v5
  let c1_i32_112 : BitVec 32 := 1#32
  let v124 : BitVec 32 := Scalar.muli v7 c1_i32_112
  let v125 : BitVec 32 := Scalar.addi v123 v124
  v125.toNat
def k0_off5 (d0 : Dev nD) : Fin 2 → Nat :=
  let c0_117 : Index := 0#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c1024_i32_116 : BitVec 32 := 1024#32
  let v134 : BitVec 32 := Scalar.muli v5 c1024_i32_116
  let v135 : Index := Scalar.indexCast v134
  ![0, v135.toNat]
def k0_off6 (d0 : Dev nD) : Fin 3 → Nat :=
  let c0_119 : Index := 0#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c1024_i32_116 : BitVec 32 := 1024#32
  let v134 : BitVec 32 := Scalar.muli v5 c1024_i32_116
  let v139 : Index := Scalar.indexCast v134
  let c0_120 : Index := 0#32
  ![0, v139.toNat, 0]
def k0_off7 (d0 : Dev nD) : Fin 3 → Nat :=
  let c1_139 : Index := 1#32
  let c1_i32_135 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v158 : BitVec 32 := Scalar.subi c1_i32_135 v5
  let c1024_i32_136 : BitVec 32 := 1024#32
  let v159 : BitVec 32 := Scalar.muli v158 c1024_i32_136
  let v164 : Index := Scalar.indexCast v159
  let c0_140 : Index := 0#32
  ![1, v164.toNat, 0]
def k0_off8 (d0 : Dev nD) : Fin 3 → Nat :=
  let c1_i32_143 : BitVec 32 := 1#32
  let c1_i32_141 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v168 : BitVec 32 := Scalar.subi c1_i32_141 v5
  let c1024_i32_142 : BitVec 32 := 1024#32
  let v169 : BitVec 32 := Scalar.muli v168 c1024_i32_142
  let c0_i32_152 : BitVec 32 := 0#32
  ![1, v169.toNat, 0]
def k0_dev4 (d0 : Dev nD) : Nat :=
  let c0_i32_148 : BitVec 32 := 0#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c2_i32_147 : BitVec 32 := 2#32
  let v170 : BitVec 32 := Scalar.muli v2 c2_i32_147
  let v171 : BitVec 32 := Scalar.addi c0_i32_148 v170
  let c1_i32_3 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v7 : BitVec 32 := Scalar.subi c1_i32_3 v5
  let c1_i32_149 : BitVec 32 := 1#32
  let v172 : BitVec 32 := Scalar.muli v7 c1_i32_149
  let v173 : BitVec 32 := Scalar.addi v171 v172
  v173.toNat
def k0_off9 (d0 : Dev nD) : Fin 3 → Nat :=
  let c1_156 : Index := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c1024_i32_153 : BitVec 32 := 1024#32
  let v182 : BitVec 32 := Scalar.muli v5 c1024_i32_153
  let v187 : Index := Scalar.indexCast v182
  let c0_157 : Index := 0#32
  ![1, v187.toNat, 0]
def k0_off10 (d0 : Dev nD) : Fin 3 → Nat :=
  let c2_176 : Index := 2#32
  let c1_i32_172 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v206 : BitVec 32 := Scalar.subi c1_i32_172 v5
  let c1024_i32_173 : BitVec 32 := 1024#32
  let v207 : BitVec 32 := Scalar.muli v206 c1024_i32_173
  let v212 : Index := Scalar.indexCast v207
  let c0_177 : Index := 0#32
  ![2, v212.toNat, 0]
def k0_off11 (d0 : Dev nD) : Fin 3 → Nat :=
  let c2_i32_180 : BitVec 32 := 2#32
  let c1_i32_178 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v216 : BitVec 32 := Scalar.subi c1_i32_178 v5
  let c1024_i32_179 : BitVec 32 := 1024#32
  let v217 : BitVec 32 := Scalar.muli v216 c1024_i32_179
  let c0_i32_189 : BitVec 32 := 0#32
  ![2, v217.toNat, 0]
def k0_dev5 (d0 : Dev nD) : Nat :=
  let c0_i32_185 : BitVec 32 := 0#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c2_i32_184 : BitVec 32 := 2#32
  let v218 : BitVec 32 := Scalar.muli v2 c2_i32_184
  let v219 : BitVec 32 := Scalar.addi c0_i32_185 v218
  let c1_i32_3 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v7 : BitVec 32 := Scalar.subi c1_i32_3 v5
  let c1_i32_186 : BitVec 32 := 1#32
  let v220 : BitVec 32 := Scalar.muli v7 c1_i32_186
  let v221 : BitVec 32 := Scalar.addi v219 v220
  v221.toNat
def k0_off12 (d0 : Dev nD) : Fin 3 → Nat :=
  let c2_193 : Index := 2#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c1024_i32_190 : BitVec 32 := 1024#32
  let v230 : BitVec 32 := Scalar.muli v5 c1024_i32_190
  let v235 : Index := Scalar.indexCast v230
  let c0_194 : Index := 0#32
  ![2, v235.toNat, 0]
def k0_off13 (d0 : Dev nD) (c0_i32_215 : BitVec 32) : Fin 2 → Nat :=
  let c0_i32_218 : BitVec 32 := 0#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c4096_i32_214 : BitVec 32 := 4096#32
  let v259 : BitVec 32 := Scalar.muli v2 c4096_i32_214
  let v260 : BitVec 32 := Scalar.addi v259 c0_i32_215
  ![0, v260.toNat]
def k0_dev6 (d0 : Dev nD) : Nat :=
  let c0_i32_226 : BitVec 32 := 0#32
  let c1_i32_2 : BitVec 32 := 1#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v6 : BitVec 32 := Scalar.subi c1_i32_2 v2
  let c2_i32_225 : BitVec 32 := 2#32
  let v266 : BitVec 32 := Scalar.muli v6 c2_i32_225
  let v267 : BitVec 32 := Scalar.addi c0_i32_226 v266
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c1_i32_227 : BitVec 32 := 1#32
  let v268 : BitVec 32 := Scalar.muli v5 c1_i32_227
  let v269 : BitVec 32 := Scalar.addi v267 v268
  v269.toNat
def k0_off14 (d0 : Dev nD) : Fin 3 → Nat :=
  let c3 : Index := 3#32
  let c1_i32_246 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v293 : BitVec 32 := Scalar.subi c1_i32_246 v5
  let c1024_i32_247 : BitVec 32 := 1024#32
  let v294 : BitVec 32 := Scalar.muli v293 c1024_i32_247
  let v299 : Index := Scalar.indexCast v294
  let c0_250 : Index := 0#32
  ![3, v299.toNat, 0]
def k0_off15 (d0 : Dev nD) : Fin 3 → Nat :=
  let c3_i32 : BitVec 32 := 3#32
  let c1_i32_251 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v303 : BitVec 32 := Scalar.subi c1_i32_251 v5
  let c1024_i32_252 : BitVec 32 := 1024#32
  let v304 : BitVec 32 := Scalar.muli v303 c1024_i32_252
  let c0_i32_261 : BitVec 32 := 0#32
  ![3, v304.toNat, 0]
def k0_dev7 (d0 : Dev nD) : Nat :=
  let c0_i32_257 : BitVec 32 := 0#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c2_i32_256 : BitVec 32 := 2#32
  let v305 : BitVec 32 := Scalar.muli v2 c2_i32_256
  let v306 : BitVec 32 := Scalar.addi c0_i32_257 v305
  let c1_i32_3 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v7 : BitVec 32 := Scalar.subi c1_i32_3 v5
  let c1_i32_258 : BitVec 32 := 1#32
  let v307 : BitVec 32 := Scalar.muli v7 c1_i32_258
  let v308 : BitVec 32 := Scalar.addi v306 v307
  v308.toNat
def k0_off16 (d0 : Dev nD) : Fin 3 → Nat :=
  let c3_265 : Index := 3#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c1024_i32_262 : BitVec 32 := 1024#32
  let v317 : BitVec 32 := Scalar.muli v5 c1024_i32_262
  let v322 : Index := Scalar.indexCast v317
  let c0_266 : Index := 0#32
  ![3, v322.toNat, 0]
def k0_dev8 (d0 : Dev nD) : Nat :=
  let c0_i32_298 : BitVec 32 := 0#32
  let c1_i32_2 : BitVec 32 := 1#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v6 : BitVec 32 := Scalar.subi c1_i32_2 v2
  let c2_i32_297 : BitVec 32 := 2#32
  let v353 : BitVec 32 := Scalar.muli v6 c2_i32_297
  let v354 : BitVec 32 := Scalar.addi c0_i32_298 v353
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c1_i32_299 : BitVec 32 := 1#32
  let v355 : BitVec 32 := Scalar.muli v5 c1_i32_299
  let v356 : BitVec 32 := Scalar.addi v354 v355
  v356.toNat
def k0_dev9 (d0 : Dev nD) : Nat :=
  let c0_i32_339 : BitVec 32 := 0#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c2_i32_338 : BitVec 32 := 2#32
  let v398 : BitVec 32 := Scalar.muli v2 c2_i32_338
  let v399 : BitVec 32 := Scalar.addi c0_i32_339 v398
  let c1_i32_3 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v7 : BitVec 32 := Scalar.subi c1_i32_3 v5
  let c1_i32_340 : BitVec 32 := 1#32
  let v400 : BitVec 32 := Scalar.muli v7 c1_i32_340
  let v401 : BitVec 32 := Scalar.addi v399 v400
  v401.toNat
def k0_dev10 (d0 : Dev nD) : Nat :=
  let c0_i32_380 : BitVec 32 := 0#32
  let c1_i32_2 : BitVec 32 := 1#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v6 : BitVec 32 := Scalar.subi c1_i32_2 v2
  let c2_i32_379 : BitVec 32 := 2#32
  let v446 : BitVec 32 := Scalar.muli v6 c2_i32_379
  let v447 : BitVec 32 := Scalar.addi c0_i32_380 v446
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c1_i32_381 : BitVec 32 := 1#32
  let v448 : BitVec 32 := Scalar.muli v5 c1_i32_381
  let v449 : BitVec 32 := Scalar.addi v447 v448
  v449.toNat
def k0_off17 (d0 : Dev nD) (c0_i32_399 : BitVec 32) : Fin 2 → Nat :=
  let c0_i32_402 : BitVec 32 := 0#32
  let c1_i32_397 : BitVec 32 := 1#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v468 : BitVec 32 := Scalar.subi c1_i32_397 v2
  let c4096_i32_398 : BitVec 32 := 4096#32
  let v469 : BitVec 32 := Scalar.muli v468 c4096_i32_398
  let v470 : BitVec 32 := Scalar.addi v469 c0_i32_399
  ![0, v470.toNat]
def k0_dev11 (d0 : Dev nD) : Nat :=
  let c0_i32_439 : BitVec 32 := 0#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c2_i32_438 : BitVec 32 := 2#32
  let v509 : BitVec 32 := Scalar.muli v2 c2_i32_438
  let v510 : BitVec 32 := Scalar.addi c0_i32_439 v509
  let c1_i32_3 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v7 : BitVec 32 := Scalar.subi c1_i32_3 v5
  let c1_i32_440 : BitVec 32 := 1#32
  let v511 : BitVec 32 := Scalar.muli v7 c1_i32_440
  let v512 : BitVec 32 := Scalar.addi v510 v511
  v512.toNat
def k0_dev12 (d0 : Dev nD) : Nat :=
  let c0_i32_480 : BitVec 32 := 0#32
  let c1_i32_2 : BitVec 32 := 1#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v6 : BitVec 32 := Scalar.subi c1_i32_2 v2
  let c2_i32_479 : BitVec 32 := 2#32
  let v557 : BitVec 32 := Scalar.muli v6 c2_i32_479
  let v558 : BitVec 32 := Scalar.addi c0_i32_480 v557
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c1_i32_481 : BitVec 32 := 1#32
  let v559 : BitVec 32 := Scalar.muli v5 c1_i32_481
  let v560 : BitVec 32 := Scalar.addi v558 v559
  v560.toNat
def k0_dev13 (d0 : Dev nD) : Nat :=
  let c0_i32_539 : BitVec 32 := 0#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c2_i32_538 : BitVec 32 := 2#32
  let v620 : BitVec 32 := Scalar.muli v2 c2_i32_538
  let v621 : BitVec 32 := Scalar.addi c0_i32_539 v620
  let c1_i32_3 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v7 : BitVec 32 := Scalar.subi c1_i32_3 v5
  let c1_i32_540 : BitVec 32 := 1#32
  let v622 : BitVec 32 := Scalar.muli v7 c1_i32_540
  let v623 : BitVec 32 := Scalar.addi v621 v622
  v623.toNat
def k0_dev14 (d0 : Dev nD) : Nat :=
  let c0_i32_593 : BitVec 32 := 0#32
  let c1_i32_2 : BitVec 32 := 1#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v6 : BitVec 32 := Scalar.subi c1_i32_2 v2
  let c2_i32_592 : BitVec 32 := 2#32
  let v679 : BitVec 32 := Scalar.muli v6 c2_i32_592
  let v680 : BitVec 32 := Scalar.addi c0_i32_593 v679
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c1_i32_594 : BitVec 32 := 1#32
  let v681 : BitVec 32 := Scalar.muli v5 c1_i32_594
  let v682 : BitVec 32 := Scalar.addi v680 v681
  v682.toNat
def k0_dev15 (d0 : Dev nD) : Nat :=
  let c0_i32_652 : BitVec 32 := 0#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c2_i32_651 : BitVec 32 := 2#32
  let v742 : BitVec 32 := Scalar.muli v2 c2_i32_651
  let v743 : BitVec 32 := Scalar.addi c0_i32_652 v742
  let c1_i32_3 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v7 : BitVec 32 := Scalar.subi c1_i32_3 v5
  let c1_i32_653 : BitVec 32 := 1#32
  let v744 : BitVec 32 := Scalar.muli v7 c1_i32_653
  let v745 : BitVec 32 := Scalar.addi v743 v744
  v745.toNat
def k0_dev16 (d0 : Dev nD) : Nat :=
  let c0_i32_706 : BitVec 32 := 0#32
  let c1_i32_2 : BitVec 32 := 1#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v6 : BitVec 32 := Scalar.subi c1_i32_2 v2
  let c2_i32_705 : BitVec 32 := 2#32
  let v801 : BitVec 32 := Scalar.muli v6 c2_i32_705
  let v802 : BitVec 32 := Scalar.addi c0_i32_706 v801
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c1_i32_707 : BitVec 32 := 1#32
  let v803 : BitVec 32 := Scalar.muli v5 c1_i32_707
  let v804 : BitVec 32 := Scalar.addi v802 v803
  v804.toNat
def k0_dev17 (d0 : Dev nD) : Nat :=
  let c0_i32_765 : BitVec 32 := 0#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c2_i32_764 : BitVec 32 := 2#32
  let v864 : BitVec 32 := Scalar.muli v2 c2_i32_764
  let v865 : BitVec 32 := Scalar.addi c0_i32_765 v864
  let c1_i32_3 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v7 : BitVec 32 := Scalar.subi c1_i32_3 v5
  let c1_i32_766 : BitVec 32 := 1#32
  let v866 : BitVec 32 := Scalar.muli v7 c1_i32_766
  let v867 : BitVec 32 := Scalar.addi v865 v866
  v867.toNat
def k0_dev18 (d0 : Dev nD) : Nat :=
  let c0_i32_819 : BitVec 32 := 0#32
  let c1_i32_2 : BitVec 32 := 1#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v6 : BitVec 32 := Scalar.subi c1_i32_2 v2
  let c2_i32_818 : BitVec 32 := 2#32
  let v923 : BitVec 32 := Scalar.muli v6 c2_i32_818
  let v924 : BitVec 32 := Scalar.addi c0_i32_819 v923
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c1_i32_820 : BitVec 32 := 1#32
  let v925 : BitVec 32 := Scalar.muli v5 c1_i32_820
  let v926 : BitVec 32 := Scalar.addi v924 v925
  v926.toNat
def k0_dev19 (d0 : Dev nD) : Nat :=
  let c0_i32_878 : BitVec 32 := 0#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c2_i32_877 : BitVec 32 := 2#32
  let v986 : BitVec 32 := Scalar.muli v2 c2_i32_877
  let v987 : BitVec 32 := Scalar.addi c0_i32_878 v986
  let c1_i32_3 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v7 : BitVec 32 := Scalar.subi c1_i32_3 v5
  let c1_i32_879 : BitVec 32 := 1#32
  let v988 : BitVec 32 := Scalar.muli v7 c1_i32_879
  let v989 : BitVec 32 := Scalar.addi v987 v988
  v989.toNat
def k0_dev20 (d0 : Dev nD) : Nat :=
  let c0_i32_932 : BitVec 32 := 0#32
  let c1_i32_2 : BitVec 32 := 1#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v6 : BitVec 32 := Scalar.subi c1_i32_2 v2
  let c2_i32_931 : BitVec 32 := 2#32
  let v1045 : BitVec 32 := Scalar.muli v6 c2_i32_931
  let v1046 : BitVec 32 := Scalar.addi c0_i32_932 v1045
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c1_i32_933 : BitVec 32 := 1#32
  let v1047 : BitVec 32 := Scalar.muli v5 c1_i32_933
  let v1048 : BitVec 32 := Scalar.addi v1046 v1047
  v1048.toNat
def k0_dev21 (d0 : Dev nD) : Nat :=
  let c0_i32_991 : BitVec 32 := 0#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c2_i32_990 : BitVec 32 := 2#32
  let v1108 : BitVec 32 := Scalar.muli v2 c2_i32_990
  let v1109 : BitVec 32 := Scalar.addi c0_i32_991 v1108
  let c1_i32_3 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v7 : BitVec 32 := Scalar.subi c1_i32_3 v5
  let c1_i32_992 : BitVec 32 := 1#32
  let v1110 : BitVec 32 := Scalar.muli v7 c1_i32_992
  let v1111 : BitVec 32 := Scalar.addi v1109 v1110
  v1111.toNat
def k0_dev22 (d0 : Dev nD) : Nat :=
  let c0_i32_1045 : BitVec 32 := 0#32
  let c1_i32_2 : BitVec 32 := 1#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v6 : BitVec 32 := Scalar.subi c1_i32_2 v2
  let c2_i32_1044 : BitVec 32 := 2#32
  let v1167 : BitVec 32 := Scalar.muli v6 c2_i32_1044
  let v1168 : BitVec 32 := Scalar.addi c0_i32_1045 v1167
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c1_i32_1046 : BitVec 32 := 1#32
  let v1169 : BitVec 32 := Scalar.muli v5 c1_i32_1046
  let v1170 : BitVec 32 := Scalar.addi v1168 v1169
  v1170.toNat
def k0_dev23 (d0 : Dev nD) : Nat :=
  let c0_i32_1104 : BitVec 32 := 0#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c2_i32_1103 : BitVec 32 := 2#32
  let v1230 : BitVec 32 := Scalar.muli v2 c2_i32_1103
  let v1231 : BitVec 32 := Scalar.addi c0_i32_1104 v1230
  let c1_i32_3 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v7 : BitVec 32 := Scalar.subi c1_i32_3 v5
  let c1_i32_1105 : BitVec 32 := 1#32
  let v1232 : BitVec 32 := Scalar.muli v7 c1_i32_1105
  let v1233 : BitVec 32 := Scalar.addi v1231 v1232
  v1233.toNat
def k0_dev24 (d0 : Dev nD) : Nat :=
  let c0_i32_1158 : BitVec 32 := 0#32
  let c1_i32_2 : BitVec 32 := 1#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v6 : BitVec 32 := Scalar.subi c1_i32_2 v2
  let c2_i32_1157 : BitVec 32 := 2#32
  let v1289 : BitVec 32 := Scalar.muli v6 c2_i32_1157
  let v1290 : BitVec 32 := Scalar.addi c0_i32_1158 v1289
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c1_i32_1159 : BitVec 32 := 1#32
  let v1291 : BitVec 32 := Scalar.muli v5 c1_i32_1159
  let v1292 : BitVec 32 := Scalar.addi v1290 v1291
  v1292.toNat
def k0_dev25 (d0 : Dev nD) : Nat :=
  let c0_i32_1217 : BitVec 32 := 0#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c2_i32_1216 : BitVec 32 := 2#32
  let v1352 : BitVec 32 := Scalar.muli v2 c2_i32_1216
  let v1353 : BitVec 32 := Scalar.addi c0_i32_1217 v1352
  let c1_i32_3 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v7 : BitVec 32 := Scalar.subi c1_i32_3 v5
  let c1_i32_1218 : BitVec 32 := 1#32
  let v1354 : BitVec 32 := Scalar.muli v7 c1_i32_1218
  let v1355 : BitVec 32 := Scalar.addi v1353 v1354
  v1355.toNat
def k0_dev26 (d0 : Dev nD) : Nat :=
  let c0_i32_1271 : BitVec 32 := 0#32
  let c1_i32_2 : BitVec 32 := 1#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v6 : BitVec 32 := Scalar.subi c1_i32_2 v2
  let c2_i32_1270 : BitVec 32 := 2#32
  let v1411 : BitVec 32 := Scalar.muli v6 c2_i32_1270
  let v1412 : BitVec 32 := Scalar.addi c0_i32_1271 v1411
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c1_i32_1272 : BitVec 32 := 1#32
  let v1413 : BitVec 32 := Scalar.muli v5 c1_i32_1272
  let v1414 : BitVec 32 := Scalar.addi v1412 v1413
  v1414.toNat
def k0_dev27 (d0 : Dev nD) : Nat :=
  let c0_i32_1330 : BitVec 32 := 0#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c2_i32_1329 : BitVec 32 := 2#32
  let v1474 : BitVec 32 := Scalar.muli v2 c2_i32_1329
  let v1475 : BitVec 32 := Scalar.addi c0_i32_1330 v1474
  let c1_i32_3 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v7 : BitVec 32 := Scalar.subi c1_i32_3 v5
  let c1_i32_1331 : BitVec 32 := 1#32
  let v1476 : BitVec 32 := Scalar.muli v7 c1_i32_1331
  let v1477 : BitVec 32 := Scalar.addi v1475 v1476
  v1477.toNat
def k0_dev28 (d0 : Dev nD) : Nat :=
  let c0_i32_1384 : BitVec 32 := 0#32
  let c1_i32_2 : BitVec 32 := 1#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v6 : BitVec 32 := Scalar.subi c1_i32_2 v2
  let c2_i32_1383 : BitVec 32 := 2#32
  let v1533 : BitVec 32 := Scalar.muli v6 c2_i32_1383
  let v1534 : BitVec 32 := Scalar.addi c0_i32_1384 v1533
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c1_i32_1385 : BitVec 32 := 1#32
  let v1535 : BitVec 32 := Scalar.muli v5 c1_i32_1385
  let v1536 : BitVec 32 := Scalar.addi v1534 v1535
  v1536.toNat
def k0_dev29 (d0 : Dev nD) : Nat :=
  let c0_i32_1437 : BitVec 32 := 0#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c2_i32_1436 : BitVec 32 := 2#32
  let v1589 : BitVec 32 := Scalar.muli v2 c2_i32_1436
  let v1590 : BitVec 32 := Scalar.addi c0_i32_1437 v1589
  let c1_i32_3 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v7 : BitVec 32 := Scalar.subi c1_i32_3 v5
  let c1_i32_1438 : BitVec 32 := 1#32
  let v1591 : BitVec 32 := Scalar.muli v7 c1_i32_1438
  let v1592 : BitVec 32 := Scalar.addi v1590 v1591
  v1592.toNat
def k0_dev30 (d0 : Dev nD) : Nat :=
  let c0_i32_1491 : BitVec 32 := 0#32
  let c1_i32_2 : BitVec 32 := 1#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v6 : BitVec 32 := Scalar.subi c1_i32_2 v2
  let c2_i32_1490 : BitVec 32 := 2#32
  let v1648 : BitVec 32 := Scalar.muli v6 c2_i32_1490
  let v1649 : BitVec 32 := Scalar.addi c0_i32_1491 v1648
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c1_i32_1492 : BitVec 32 := 1#32
  let v1650 : BitVec 32 := Scalar.muli v5 c1_i32_1492
  let v1651 : BitVec 32 := Scalar.addi v1649 v1650
  v1651.toNat
def k0_dev31 (d0 : Dev nD) : Nat :=
  let c0_i32_1544 : BitVec 32 := 0#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c2_i32_1543 : BitVec 32 := 2#32
  let v1704 : BitVec 32 := Scalar.muli v2 c2_i32_1543
  let v1705 : BitVec 32 := Scalar.addi c0_i32_1544 v1704
  let c1_i32_3 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v7 : BitVec 32 := Scalar.subi c1_i32_3 v5
  let c1_i32_1545 : BitVec 32 := 1#32
  let v1706 : BitVec 32 := Scalar.muli v7 c1_i32_1545
  let v1707 : BitVec 32 := Scalar.addi v1705 v1706
  v1707.toNat
def k0_dev32 (d0 : Dev nD) : Nat :=
  let c0_i32_1598 : BitVec 32 := 0#32
  let c1_i32_2 : BitVec 32 := 1#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v6 : BitVec 32 := Scalar.subi c1_i32_2 v2
  let c2_i32_1597 : BitVec 32 := 2#32
  let v1763 : BitVec 32 := Scalar.muli v6 c2_i32_1597
  let v1764 : BitVec 32 := Scalar.addi c0_i32_1598 v1763
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c1_i32_1599 : BitVec 32 := 1#32
  let v1765 : BitVec 32 := Scalar.muli v5 c1_i32_1599
  let v1766 : BitVec 32 := Scalar.addi v1764 v1765
  v1766.toNat
def k0_dev33 (d0 : Dev nD) : Nat :=
  let c0_i32_1667 : BitVec 32 := 0#32
  let c1_i32_2 : BitVec 32 := 1#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v6 : BitVec 32 := Scalar.subi c1_i32_2 v2
  let c2_i32_1666 : BitVec 32 := 2#32
  let v1831 : BitVec 32 := Scalar.muli v6 c2_i32_1666
  let v1832 : BitVec 32 := Scalar.addi c0_i32_1667 v1831
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c1_i32_1668 : BitVec 32 := 1#32
  let v1833 : BitVec 32 := Scalar.muli v5 c1_i32_1668
  let v1834 : BitVec 32 := Scalar.addi v1832 v1833
  v1834.toNat
def k0_dev34 (d0 : Dev nD) : Nat :=
  let c0_i32_1717 : BitVec 32 := 0#32
  let c1_i32_2 : BitVec 32 := 1#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v6 : BitVec 32 := Scalar.subi c1_i32_2 v2
  let c2_i32_1716 : BitVec 32 := 2#32
  let v1881 : BitVec 32 := Scalar.muli v6 c2_i32_1716
  let v1882 : BitVec 32 := Scalar.addi c0_i32_1717 v1881
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c1_i32_1718 : BitVec 32 := 1#32
  let v1883 : BitVec 32 := Scalar.muli v5 c1_i32_1718
  let v1884 : BitVec 32 := Scalar.addi v1882 v1883
  v1884.toNat
-- ==== ReferenceIdeal.lean ====
abbrev S4096x2048 : Shape := ⟨2, ![4096, 2048]⟩
abbrev S4096x8192 : Shape := ⟨2, ![4096, 8192]⟩
abbrev S2048x4096 : Shape := ⟨2, ![2048, 4096]⟩
abbrev S2048x8192 : Shape := ⟨2, ![2048, 8192]⟩

abbrev nBuf : Space → Nat
  | .hbm => 5
  | .vmem => 0
  | .smem => 0
  | _ => 0

abbrev bufTy : (tb : Table) → Fin (tcTables nBuf tb) → BufTy
  | .hbm, ⟨0, _⟩ => ⟨S4096x2048, .f32⟩
  | .hbm, ⟨1, _⟩ => ⟨S4096x8192, .f32⟩
  | .hbm, ⟨2, _⟩ => ⟨S2048x4096, .f32⟩
  | .hbm, ⟨3, _⟩ => ⟨S2048x8192, .f32⟩
  | .hbm, ⟨4, _⟩ => ⟨S2048x8192, .bf16⟩
  | _, _ => ⟨S4096x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩

abbrev nD : Nat := 1
abbrev τ : Topo := Topo.v7x

variable {F : FTy → Type} [FloatOps F]
-- ==== Proof.Program.lean ====
module

public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import Idealize.ShloMosaic.Lib.Pipeline.Launch
public import Idealize.ShloMosaic.Lib.Pipeline.Kit
public import Idealize.ShloMosaic.Lib.Tactic

/-! # The body as a program over its sixteen column chunks

The printed body is straight-line text. This module writes the same operations as a few steps — fetch a
chunk, multiply a half, send, reduce, gather — each at a chunk `c : Fin 16`, in continuation-passing form,
and shows the printed body is their composition (`body_eq`). Every later lemma is about one step at a
symbolic chunk. -/

@[expose] public section

set_option maxRecDepth 65536

noncomputable section

namespace Cert.Overlap

open Cert.KernelIdeal Cert.KernelIdeal.Gen

open Idealize.ShloMosaic
open Idealize.ShloMosaic.TcCoe
open Idealize.SL Idealize.SL.Sem

variable {F : FTy → Type} [FloatOps F]

/-- A tail of the body. -/
abbrev Tail (F : FTy → Type) : Type 1 := Prog (TpuEff nD τ sig (Elt F) Λ₀ .tc) PUnit

/-! ## Buffers -/

abbrev xM : Memref sig .tc .hbm S2048x2048 .f32 := Memref.whole main_arg0
abbrev dyM : Memref sig .tc .hbm S2048x8192 .f32 := Memref.whole main_arg1
abbrev outM : Memref sig .tc .hbm S1024x8192 .bf16 := Memref.whole main_v1
abbrev x16M : Memref sig .tc .vmem S2048x2048 .bf16 := Memref.whole cc0_scratch0
abbrev xstM : Memref sig .tc .vmem S2x512x2048 .f32 := Memref.whole cc0_scratch1
abbrev dyvM : Memref sig .tc .vmem S3x2048x256 .f32 := Memref.whole cc0_scratch2
abbrev pM : Memref sig .tc .vmem S4x2048x256 .bf16 := Memref.whole cc0_scratch3
abbrev redM : Memref sig .tc .vmem S4x1024x256 .bf16 := Memref.whole cc0_scratch4
abbrev rsM : Memref sig .tc .vmem S16x1024x256 .bf16 := Memref.whole cc0_scratch5
abbrev agM : Memref sig .tc .vmem S16x1024x256 .bf16 := Memref.whole cc0_scratch6

/-! ## Neighbours and slots -/

/-- The device in the other mesh row (the gather's partner). -/
abbrev xnbr (d : Dev nD) : Dev nD := ⟨k0_dev1 d, k0_dev1_lt d⟩
/-- The device in the other mesh column (the reduction's partner). -/
abbrev ynbr (d : Dev nD) : Dev nD := ⟨k0_dev2 d, k0_dev2_lt d⟩

/-- The chunk's slot in the ring of three dy buffers. -/
abbrev slot3 (c : Fin 16) : Fin 3 := ⟨c.val % 3, Nat.mod_lt _ (by decide)⟩
/-- The chunk's slot in the rings of four partial products and four reduced chunks. -/
abbrev slot4 (c : Fin 16) : Fin 4 := ⟨c.val % 4, Nat.mod_lt _ (by decide)⟩
/-- The tile's slot in the pair of x staging buffers. -/
abbrev slot2 (i : Fin 4) : Fin 2 := ⟨i.val % 2, Nat.mod_lt _ (by decide)⟩

/-- Where a slot's half for the other mesh column starts in the ring of partial products. -/
abbrev offOth (d : Dev nD) (s : Fin 4) : Fin 3 → ℕ := ![s.val, k0_off4 d 1, 0]
/-- Where a slot's own half starts in the ring of partial products. -/
abbrev offOwn (d : Dev nD) (s : Fin 4) : Fin 3 → ℕ := ![s.val, k0_off6 d 1, 0]

theorem offOth_inb (d : Dev nD) : ∀ s : Fin 4, ∀ a, offOth d s a + S1x1024x256.size a ≤ S4x2048x256.size a
  | 0 => k0_off4_inb d | 1 => k0_off8_inb d | 2 => k0_off11_inb d | 3 => k0_off15_inb d
theorem offOwn_inb (d : Dev nD) : ∀ s : Fin 4, ∀ a, offOwn d s a + S1x1024x256.size a ≤ S4x2048x256.size a
  | 0 => k0_off6_inb d | 1 => k0_off9_inb d | 2 => k0_off12_inb d | 3 => k0_off16_inb d

abbrev othR (d : Dev nD) (s : Fin 4) : Rect S4x2048x256 := Rect.unit (s := S4x2048x256) (offOth d s) S1x1024x256.size (offOth_inb d s)
abbrev ownR (d : Dev nD) (s : Fin 4) : Rect S4x2048x256 := Rect.unit (s := S4x2048x256) (offOwn d s) S1x1024x256.size (offOwn_inb d s)

theorem othR_words (d : Dev nD) : ∀ s : Fin 4, (othR d s).WholeWords (EltTy.packing .bf16)
  | 0 => k0_off4_wordsbf16 d | 1 => k0_off8_wordsbf16 d | 2 => k0_off11_wordsbf16 d | 3 => k0_off15_wordsbf16 d
theorem othR_packed (d : Dev nD) : ∀ s : Fin 4, (othR d s).PackedRows (EltTy.packing .bf16)
  | 0 => k0_off3_packedbf16 d | 1 => k0_off7_packedbf16 d | 2 => k0_off10_packedbf16 d | 3 => k0_off14_packedbf16 d
theorem ownR_packed (d : Dev nD) : ∀ s : Fin 4, (ownR d s).PackedRows (EltTy.packing .bf16)
  | 0 => k0_off6_packedbf16 d | 1 => k0_off9_packedbf16 d | 2 => k0_off12_packedbf16 d | 3 => k0_off16_packedbf16 d

theorem slot2_inb : ∀ s : Fin 2, ∀ a, (![s.val, 0, 0] : Fin 3 → ℕ) a + S1x512x2048.size a ≤ S2x512x2048.size a := by decide
theorem slot3_inb : ∀ s : Fin 3, ∀ a, (![s.val, 0, 0] : Fin 3 → ℕ) a + S1x2048x256.size a ≤ S3x2048x256.size a := by decide
theorem slot4_inb : ∀ s : Fin 4, ∀ a, (![s.val, 0, 0] : Fin 3 → ℕ) a + S1x1024x256.size a ≤ S4x1024x256.size a := by decide
theorem slot16_inb : ∀ s : Fin 16, ∀ a, (![s.val, 0, 0] : Fin 3 → ℕ) a + S1x1024x256.size a ≤ S16x1024x256.size a := by decide
theorem rows_inb : ∀ i : Fin 4, ∀ a, (![512 * i.val, 0] : Fin 2 → ℕ) a + S512x2048.size a ≤ S2048x2048.size a := by decide
theorem sem2_inb : ∀ s : Fin 2, ∀ a, (![s.val] : Fin 1 → ℕ) a + S1.size a ≤ S2.size a := by decide
theorem sem3_inb : ∀ s : Fin 3, ∀ a, (![s.val] : Fin 1 → ℕ) a + S1.size a ≤ S3.size a := by decide
theorem sem4_inb : ∀ s : Fin 4, ∀ a, (![s.val] : Fin 1 → ℕ) a + S1.size a ≤ S4.size a := by decide
theorem sem16_inb : ∀ s : Fin 16, ∀ a, (![s.val] : Fin 1 → ℕ) a + S1.size a ≤ S16.size a := by decide

abbrev xstR (s : Fin 2) : Rect S2x512x2048 := Rect.unit (s := S2x512x2048) ![s.val, 0, 0] S1x512x2048.size (slot2_inb s)
abbrev dyvR (s : Fin 3) : Rect S3x2048x256 := Rect.unit (s := S3x2048x256) ![s.val, 0, 0] S1x2048x256.size (slot3_inb s)
abbrev redR (s : Fin 4) : Rect S4x1024x256 := Rect.unit (s := S4x1024x256) ![s.val, 0, 0] S1x1024x256.size (slot4_inb s)
abbrev recvR (c : Fin 16) : Rect S16x1024x256 := Rect.unit (s := S16x1024x256) ![c.val, 0, 0] S1x1024x256.size (slot16_inb c)
abbrev rowsR (i : Fin 4) : Rect S2048x2048 := Rect.unit (s := S2048x2048) ![512 * i.val, 0] S512x2048.size (rows_inb i)
/-- The columns of x this device multiplies for its partner. -/
abbrev colsOthR (d : Dev nD) : Rect S2048x2048 := Rect.unit (s := S2048x2048) (k0_off2 d) S2048x1024.size (k0_off2_inb d)
/-- The columns of x this device multiplies for itself. -/
abbrev colsOwnR (d : Dev nD) : Rect S2048x2048 := Rect.unit (s := S2048x2048) (k0_off5 d) S2048x1024.size (k0_off5_inb d)
/-- The chunk's columns of dy. -/
abbrev dyR (d : Dev nD) (c : Fin 16) : Rect S2048x8192 := Rect.unit (s := S2048x8192) (k0_off1 d (BitVec.ofNat 32 (256 * c.val))) S2048x256.size (k0_off1_inb d c)
/-- The chunk's columns of the result, in this device's half. -/
abbrev outR (d : Dev nD) (c : Fin 16) : Rect S1024x8192 := Rect.unit (s := S1024x8192) (k0_off13 d (BitVec.ofNat 32 (256 * c.val))) S1024x256.size (k0_off13_inb d c)
/-- The chunk's columns of the result, in the other mesh row's half. -/
abbrev out2R (d : Dev nD) (c : Fin 16) : Rect S1024x8192 := Rect.unit (s := S1024x8192) (k0_off17 d (BitVec.ofNat 32 (256 * c.val))) S1024x256.size (k0_off17_inb d c)

theorem redR_words : ∀ s : Fin 4, (redR s).WholeWords (EltTy.packing .bf16) := by decide +kernel
theorem redR_packed : ∀ s : Fin 4, (redR s).PackedRows (EltTy.packing .bf16) := by decide +kernel
theorem recvR_words : ∀ c : Fin 16, (recvR c).WholeWords (EltTy.packing .bf16) := by decide +kernel
theorem rowsR_packed : ∀ i : Fin 4, (rowsR i).PackedRows (EltTy.packing .bf16) := by decide +kernel

/-! ## Views and semaphores -/

abbrev xV (i : Fin 4) : Memref sig .tc .hbm S512x2048 .f32 := xM.slice (rowsR i) (fun _ => rfl)
abbrev xstV (s : Fin 2) : Memref sig .tc .vmem S512x2048 .f32 := (xstM.slice (xstR s) (fun _ => rfl)).squeeze S512x2048 squeezes_S1x512x2048_S512x2048
abbrev dyV (d : Dev nD) (c : Fin 16) : Memref sig .tc .hbm S2048x256 .f32 := dyM.slice (dyR d c) (fun _ => rfl)
abbrev dyvV (s : Fin 3) : Memref sig .tc .vmem S2048x256 .f32 := (dyvM.slice (dyvR s) (fun _ => rfl)).squeeze S2048x256 squeezes_S1x2048x256_S2048x256
abbrev othV (d : Dev nD) (s : Fin 4) : Memref sig .tc .vmem S1024x256 .bf16 := (pM.slice (othR d s) (fun _ => rfl)).squeeze S1024x256 squeezes_S1x1024x256_S1024x256
abbrev redV (s : Fin 4) : Memref sig .tc .vmem S1024x256 .bf16 := (redM.slice (redR s) (fun _ => rfl)).squeeze S1024x256 squeezes_S1x1024x256_S1024x256
abbrev rsV (c : Fin 16) : Memref sig .tc .vmem S1024x256 .bf16 := (rsM.slice (recvR c) (fun _ => rfl)).squeeze S1024x256 squeezes_S1x1024x256_S1024x256
abbrev agV (c : Fin 16) : Memref sig .tc .vmem S1024x256 .bf16 := (agM.slice (recvR c) (fun _ => rfl)).squeeze S1024x256 squeezes_S1x1024x256_S1024x256
abbrev outV (d : Dev nD) (c : Fin 16) : Memref sig .tc .hbm S1024x256 .bf16 := outM.slice (outR d c) (fun _ => rfl)
abbrev out2V (d : Dev nD) (c : Fin 16) : Memref sig .tc .hbm S1024x256 .bf16 := outM.slice (out2R d c) (fun _ => rfl)

abbrev semAt16 (A : DmaSems sig S16) (c : Fin 16) : DmaSem sig := ((A.slice (Rect.unit (s := S16) ![c.val] S1.size (sem16_inb c))).squeeze S_ squeezes_S1_S_).sem
abbrev xSem (s : Fin 2) : DmaSem sig := ((cc0_scratch7.slice (Rect.unit (s := S2) ![s.val] S1.size (sem2_inb s))).squeeze S_ squeezes_S1_S_).sem
abbrev dySem (s : Fin 3) : DmaSem sig := ((cc0_scratch8.slice (Rect.unit (s := S3) ![s.val] S1.size (sem3_inb s))).squeeze S_ squeezes_S1_S_).sem
abbrev outSem (s : Fin 4) : DmaSem sig := ((cc0_scratch9.slice (Rect.unit (s := S4) ![s.val] S1.size (sem4_inb s))).squeeze S_ squeezes_S1_S_).sem
abbrev out2Sem (c : Fin 16) : DmaSem sig := semAt16 cc0_scratch10 c
abbrev rsSend (c : Fin 16) : DmaSem sig := semAt16 cc0_scratch11 c
abbrev rsRecv (c : Fin 16) : DmaSem sig := semAt16 cc0_scratch12 c
abbrev agSend (c : Fin 16) : DmaSem sig := semAt16 cc0_scratch13 c
abbrev agRecv (c : Fin 16) : DmaSem sig := semAt16 cc0_scratch14 c
abbrev barSem : Sem sig := (SemArray.scalar (sig.barrier 0 rfl) : Sems sig S_).sem

theorem word_pM_oth (d : Dev nD) (s : Fin 4) : (othV d s).view.WordExact :=
  ((Memref.isWhole_whole cc0_scratch3).wordExact_slice rfl _ (othR_words d s)).reshape _ _
theorem word_red (s : Fin 4) : (redV s).view.WordExact :=
  ((Memref.isWhole_whole cc0_scratch4).wordExact_slice rfl _ (redR_words s)).reshape _ _
theorem word_rs (c : Fin 16) : (rsV c).view.WordExact :=
  ((Memref.isWhole_whole cc0_scratch5).wordExact_slice rfl _ (recvR_words c)).reshape _ _
theorem word_ag (c : Fin 16) : (agV c).view.WordExact :=
  ((Memref.isWhole_whole cc0_scratch6).wordExact_slice rfl _ (recvR_words c)).reshape _ _
theorem word_out (d : Dev nD) (c : Fin 16) : (outV d c).view.WordExact :=
  (Memref.isWhole_whole main_v1).wordExact_slice rfl _ (k0_off13_wordsbf16 d c)
theorem word_out2 (d : Dev nD) (c : Fin 16) : (out2V d c).view.WordExact :=
  (Memref.isWhole_whole main_v1).wordExact_slice rfl _ (k0_off17_wordsbf16 d c)

/-! ## Steps -/

/-- Start the copy of x's tile `i` into its staging slot. -/
def xStart (i : Fin 4) (k : Tail F) : Tail F :=
  Prog.op (.enqueueDma (xV i) (.here (xstV (slot2 i))) (.dma (xSem (slot2 i))) (View.wordExact_bits rfl) ((View.wordExact_bits rfl).reshape _ _) ⟨Or.inl rfl, trivial⟩) fun _ => k

/-- Wait for x's tile `i` and store it, narrowed, into the resident copy of x. -/
def xTake (i : Fin 4) (k : Tail F) : Tail F :=
  Prog.op (.waitDma2 (xSem (slot2 i)) (xV i) (xstV (slot2 i)) (View.wordExact_bits rfl) ((View.wordExact_bits rfl).reshape _ _)) fun _ =>
  Prog.op (.load xstM (xstR (slot2 i)).toLoadRect (View.loadsAt_vmem h_S1x512x2048)) fun v =>
  Prog.op (.load x16M (rowsR i).toLoadRect (View.loadsAt_vmem h_S512x2048)) fun _ =>
  Prog.op (.store x16M (rowsR i) (k0_pay1 v) Finset.univ (View.stores_vmem h_S512x2048 ((Memref.isWhole_whole cc0_scratch0).storeExact_slice rfl _ (rowsR_packed i)) (fun _ => rfl)) (.inl rfl)) fun _ => k

/-- Start the copy of chunk `c` of dy into its slot. -/
def dyStart (d : Dev nD) (c : Fin 16) (k : Tail F) : Tail F :=
  Prog.op (.enqueueDma (dyV d c) (.here (dyvV (slot3 c))) (.dma (dySem (slot3 c))) (View.wordExact_bits rfl) ((View.wordExact_bits rfl).reshape _ _) ⟨Or.inl rfl, trivial⟩) fun _ => k

/-- Wait for chunk `c` of dy and read it. -/
def dyTake (d : Dev nD) (c : Fin 16) (k : Vec F S1x2048x256 .f32 → Tail F) : Tail F :=
  Prog.op (.waitDma2 (dySem (slot3 c)) (dyV d c) (dyvV (slot3 c)) (View.wordExact_bits rfl) ((View.wordExact_bits rfl).reshape _ _)) fun _ =>
  Prog.op (.load dyvM (dyvR (slot3 c)).toLoadRect (View.loadsAt_vmem h_S1x2048x256)) k

/-- Multiply the partner's columns of x with the chunk into the partner's half of the slot. -/
def mmOth (d : Dev nD) (c : Fin 16) (b : Vec F S1x2048x256 .f32) (k : Tail F) : Tail F :=
  Prog.op (.load x16M (colsOthR d).toLoadRect (View.loadsAt_vmem h_S2048x1024)) fun a =>
  Prog.op (.load pM (othR d (slot4 c)).toLoadRect (View.loadsAt_vmem h_S1x1024x256)) fun _ =>
  Prog.op (.store pM (othR d (slot4 c)) (k0_pay11 b a) Finset.univ (View.stores_vmem h_S1x1024x256 ((Memref.isWhole_whole cc0_scratch3).storeExact_slice rfl _ (othR_packed d (slot4 c))) (fun _ => rfl)) (.inl rfl)) fun _ => k

/-- Multiply the device's own columns of x with the chunk into the own half of the slot. -/
def mmOwn (d : Dev nD) (c : Fin 16) (b : Vec F S1x2048x256 .f32) (k : Tail F) : Tail F :=
  Prog.op (.load x16M (colsOwnR d).toLoadRect (View.loadsAt_vmem h_S2048x1024)) fun a =>
  Prog.op (.load pM (ownR d (slot4 c)).toLoadRect (View.loadsAt_vmem h_S1x1024x256)) fun _ =>
  Prog.op (.store pM (ownR d (slot4 c)) (k0_pay11 b a) Finset.univ (View.stores_vmem h_S1x1024x256 ((Memref.isWhole_whole cc0_scratch3).storeExact_slice rfl _ (ownR_packed d (slot4 c))) (fun _ => rfl)) (.inl rfl)) fun _ => k

/-- Send the partner's half of the slot to the other mesh column. -/
def rsStart (d : Dev nD) (c : Fin 16) (k : Tail F) : Tail F :=
  Prog.op (.enqueueDma (othV d (slot4 c)) (.remote (Dev.tc (ynbr d)) (rsV c) (.dma (rsSend c))) (.dma (rsRecv c)) (word_pM_oth d (slot4 c)) (word_rs c) ⟨⟨rfl, Or.inl rfl⟩, trivial⟩) fun _ => k

/-- Wait until the chunk's half has left. -/
def rsLeft (d : Dev nD) (c : Fin 16) (k : Tail F) : Tail F :=
  Prog.op (.waitDma2 (rsSend c) (rsV c) (othV d (slot4 c)) (word_rs c) (word_pM_oth d (slot4 c))) fun _ => k

/-- Wait for the partner's half of the chunk. -/
def rsTake (d : Dev nD) (c : Fin 16) (k : Tail F) : Tail F :=
  Prog.op (.waitDma2 (rsRecv c) (othV d (slot4 c)) (rsV c) (word_pM_oth d (slot4 c)) (word_rs c)) fun _ => k

/-- Add the two halves into the chunk's slot of reduced values. -/
def addHalves (d : Dev nD) (c : Fin 16) (k : Tail F) : Tail F :=
  Prog.op (.load pM (ownR d (slot4 c)).toLoadRect (View.loadsAt_vmem h_S1x1024x256)) fun a =>
  Prog.op (.load rsM (recvR c).toLoadRect (View.loadsAt_vmem h_S1x1024x256)) fun b =>
  Prog.op (.load redM (redR (slot4 c)).toLoadRect (View.loadsAt_vmem h_S1x1024x256)) fun _ =>
  Prog.op (.store redM (redR (slot4 c)) (k0_pay43 (k0_pay42 a b)) Finset.univ (View.stores_vmem h_S1x1024x256 ((Memref.isWhole_whole cc0_scratch4).storeExact_slice rfl _ (redR_packed (slot4 c))) (fun _ => rfl)) (.inl rfl)) fun _ => k

/-- Copy the reduced chunk into the result. -/
def outStart (d : Dev nD) (c : Fin 16) (k : Tail F) : Tail F :=
  Prog.op (.enqueueDma (redV (slot4 c)) (.here (outV d c)) (.dma (outSem (slot4 c))) (word_red (slot4 c)) (word_out d c) ⟨Or.inl rfl, trivial⟩) fun _ => k

/-- Send the reduced chunk to the other mesh row. -/
def agStart (d : Dev nD) (c : Fin 16) (k : Tail F) : Tail F :=
  Prog.op (.enqueueDma (redV (slot4 c)) (.remote (Dev.tc (xnbr d)) (agV c) (.dma (agSend c))) (.dma (agRecv c)) (word_red (slot4 c)) (word_ag c) ⟨⟨rfl, Or.inl rfl⟩, trivial⟩) fun _ => k

/-- Wait until the reduced chunk is in the result. -/
def outLeft (d : Dev nD) (c : Fin 16) (k : Tail F) : Tail F :=
  Prog.op (.waitDma2 (outSem (slot4 c)) (redV (slot4 c)) (outV d c) (word_red (slot4 c)) (word_out d c)) fun _ => k

/-- Wait until the reduced chunk has left. -/
def agLeft (c : Fin 16) (k : Tail F) : Tail F :=
  Prog.op (.waitDma2 (agSend c) (agV c) (redV (slot4 c)) (word_ag c) (word_red (slot4 c))) fun _ => k

/-- Wait for the other mesh row's reduced chunk. -/
def agTake (c : Fin 16) (k : Tail F) : Tail F :=
  Prog.op (.waitDma2 (agRecv c) (redV (slot4 c)) (agV c) (word_red (slot4 c)) (word_ag c)) fun _ => k

/-- Copy the gathered chunk into the result. -/
def out2Start (d : Dev nD) (c : Fin 16) (k : Tail F) : Tail F :=
  Prog.op (.enqueueDma (agV c) (.here (out2V d c)) (.dma (out2Sem c)) (word_ag c) (word_out2 d c) ⟨Or.inl rfl, trivial⟩) fun _ => k

/-- Wait until the gathered chunk is in the result. -/
def out2Left (d : Dev nD) (c : Fin 16) (k : Tail F) : Tail F :=
  Prog.op (.waitDma2 (out2Sem c) (agV c) (out2V d c) (word_ag c) (word_out2 d c)) fun _ => k

/-- Tell both neighbours that this device's receive buffers are ready. -/
def announce (d : Dev nD) (k : Tail F) : Tail F :=
  semSignalWord (xnbr d) barSem 1#32 >>= fun _ => semSignalWord (ynbr d) barSem 1#32 >>= fun _ => k

/-- Wait for both neighbours' announcements. -/
def meet (k : Tail F) : Tail F := semWaitWord barSem 2#32 >>= fun _ => k

/-! ## The chunks -/

/-- Run a step at the chunk `n - j` when there is one. -/
def back (j : ℕ) (n : Fin 16) (f : Fin 16 → Tail F → Tail F) (k : Tail F) : Tail F :=
  if j ≤ n.val then f ⟨n.val - j, by omega⟩ k else k

/-- Run a step at the chunk `n + j` when there is one. -/
def ahead (j : ℕ) (n : Fin 16) (f : Fin 16 → Tail F → Tail F) (k : Tail F) : Tail F :=
  if h : n.val + j < 16 then f ⟨n.val + j, h⟩ k else k

/-- Reduce chunk `c` and start both copies of it. -/
def finish (d : Dev nD) (c : Fin 16) (k : Tail F) : Tail F :=
  back 4 c (fun c' k => outLeft d c' (agLeft c' k)) <| rsTake d c <| addHalves d c <| outStart d c <| agStart d c k

/-- Receive the other row's chunk `c` and start its copy. -/
def gather (d : Dev nD) (c : Fin 16) (k : Tail F) : Tail F := agTake c <| out2Start d c k

/-- One chunk of the main loop. -/
def chunk (d : Dev nD) (n : Fin 16) (k : Tail F) : Tail F :=
  dyTake d n fun b =>
  ahead 2 n (dyStart d) <|
  back 4 n (rsLeft d) <|
  mmOth d n b <|
  (fun k => if n.val = 0 then meet k else k) <|
  rsStart d n <|
  mmOwn d n b <|
  back 2 n (finish d) <|
  back 4 n (gather d) k

/-- The steps `f` of the chunks from `a` on, then the tail. -/
def forFrom (f : Fin 16 → Tail F → Tail F) (a : ℕ) (k : Tail F) : ℕ → Tail F
  | 0 => k
  | j + 1 => if h : a < 16 then f ⟨a, h⟩ (forFrom f (a + 1) k j) else k

/-- The last chunks' waits. -/
def drain (d : Dev nD) (c : Fin 16) (k : Tail F) : Tail F := rsLeft d c <| outLeft d c <| agLeft c k

/-- The part before the chunks. -/
def setup (d : Dev nD) (k : Tail F) : Tail F :=
  announce d <| dyStart d 0 <| dyStart d 1 <|
  xStart 0 <| xStart 1 <| xTake 0 <| xStart 2 <| xTake 1 <| xStart 3 <| xTake 2 <| xTake 3 k

/-- The part after the chunks. -/
def closing (d : Dev nD) : Tail F :=
  finish d 14 <| finish d 15 <|
  forFrom (gather d) 12 (forFrom (drain d) 12 (forFrom (out2Left d) 0 (Prog.ret ⟨⟩) 16) 4) 4

/-- The body of device `d`. -/
def prog (d : Dev nD) : Tail F := setup d <| forFrom (chunk d) 0 (closing d) 16

set_option maxHeartbeats 2000000 in
/-- The printed body is the program above. -/
theorem body_eq (t : Fin cfg0.N) : bodyAt0 (F := F) t = Prog.op .deviceId prog := rfl

end Cert.Overlap

end
-- ==== Proof.Views.lean ====
module

public import proofs.«01_k».proof.Proof.Program
public import Idealize.ShloMosaic.Lib.MemrefSat
public import Idealize.ShloMosaic.Lib.ReshapeSlab

/-! # Owning parts of a buffer

What a device owns of its buffers is stated part by part: `has d M q X` is the part `M` at share `q` with
contents `X`, `room d M` the part at some contents. This module gives the machine's operations on such parts —
load, store, a copy on the device — and cuts a buffer into parts that tile it and joins them again. -/

@[expose] public section

set_option maxRecDepth 16384

noncomputable section

namespace Cert.Overlap

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

/-- The ghost state: the rounds of the pipeline, the rounds of the protocol between the devices (a round may have
    two duties), and the counters of the copies a device makes for itself. -/
abbrev UU : Type := UR sig nD τ × (Rounds.URounds (GSem nD τ sig) Bool × Counters)

local notation "𝕄" => MT nD τ sig Unit (Elt F) ℕ UU ℕ

abbrev EP : Emb (UR sig nD τ) (MT nD τ sig Unit (Elt F) ℕ UU ℕ) := embL
abbrev ER : Emb (Rounds.URounds (GSem nD τ sig) Bool) (MT nD τ sig Unit (Elt F) ℕ UU ℕ) := Emb.inl.trans embR

abbrev 𝒱₀ : Variants := Variants.none

/-- The weakest precondition of a tail of device `d`'s body. -/
abbrev run (d : Dev nD) (k : Tail F) (Q : PUnit.{1} → sProp 𝕄) : sProp 𝕄 :=
  wp frame (wpE (defs₀ (F := F)) 𝒱₀ (d : Thread nD τ) none) Set.univ k Q

section Parts

variable {sp sp' : Space} {s s' : Shape} {e : EltTy} (d : Dev nD)

/-- Device `d` owns the part `M` at share `q` and reads `X` through it. -/
abbrev has (M : Memref sig .tc sp s e) (q : PosShare TreeShare) (X : s.Idx → Elt F e) : sProp 𝕄 :=
  owns (d : Thread nD τ) M q X

/-- Device `d` owns the part `M` outright, whatever it holds. -/
abbrev room (M : Memref sig .tc sp s e) : sProp 𝕄 := iprop(∃ X : s.Idx → Elt F e, has d M fullShare X)

omit [FloatOps F] in
theorem has_room (M : Memref sig .tc sp s e) (X : s.Idx → Elt F e) : has d M fullShare X ⊢ room d M := by
  iintro H; iexists X; iexact H

omit [FloatOps F] in
/-- A squeezed part holds its contents under the squeezed indices. -/
theorem has_squeeze (M : Memref sig .tc sp s e) (h : s.Squeezes s') (q : PosShare TreeShare) (X : s.Idx → Elt F e) :
    has d M q X ⊣⊢ has d (M.squeeze s' h) q (fun j => X (Shape.reshapeEquiv h.numel_eq j)) := by
  unfold has owns
  have hset : (M.squeeze s' h).view.set = M.view.set := View.set_reshape _ _
  constructor
  · iintro ⟨%f, %hf, H⟩
    iexists f
    isplitr
    · ipureintro; rw [← hf]; rfl
    · rw [hset]; iexact H
  · iintro ⟨%f, %hf, H⟩
    iexists f
    isplitr
    · ipureintro
      funext x
      have := congrFun hf ((Shape.reshapeEquiv h.numel_eq).symm x)
      rw [Equiv.apply_symm_apply] at this
      rw [← this]
      show _ = M.view.read (Elt F) f (Shape.reshapeEquiv h.numel_eq ((Shape.reshapeEquiv h.numel_eq).symm x))
      rw [Equiv.apply_symm_apply]
    · rw [hset]; iexact H

omit [FloatOps F] in
theorem room_squeeze (M : Memref sig .tc sp s e) (h : s.Squeezes s') :
    (room d M : sProp 𝕄) ⊣⊢ room d (M.squeeze s' h) := by
  constructor
  · iintro ⟨%X, H⟩
    iexists _
    iapply (has_squeeze d M h fullShare X).1
    iexact H
  · iintro ⟨%Y, H⟩
    iexists (fun x => Y ((Shape.reshapeEquiv h.numel_eq).symm x))
    iapply (has_squeeze d M h fullShare _).2
    simp only [Equiv.symm_apply_apply]
    iexact H

end Parts

section Ops

variable {s : Shape} {e : EltTy} (d : Dev nD)

/-- A load of a part reads what the part holds. -/
theorem wp_load_part {Q : PUnit.{1} → sProp 𝕄} {cs : CoreSpace} {M : Memref sig .tc cs s e} {r : Rect s} (hr : ∀ a, r.stride a = 1) {hl : M.view.LoadsAt r.toLoadRect}
    {k : (r.shape.Idx → Elt F e) → Tail F} {q : PosShare TreeShare} {X : r.shape.Idx → Elt F e} :
    has d (M.slice r hr) q X ⊢ iprop((has d (M.slice r hr) q X -∗ run d (k X) Q)
      -∗ run d (Prog.op (.load M r.toLoadRect hl) k) Q) := by
  unfold has owns
  iintro ⟨%f, %hf, H⟩ Hk
  iapply (wp_load_rect 𝒱₀ (d : Thread nD τ) none Set.univ (m := M) (r := r) (S := (M.access r).set) subset_rfl) $$ H
  iintro H
  rw [show (M.access r).read (Elt F) f = X from hf]
  iapply Hk
  iexists f
  isplitr; · ipureintro; exact hf
  iexact H

/-- A load of a rectangle of a part reads the part's contents at the rectangle's places. -/
theorem wp_load_within {Q : PUnit.{1} → sProp 𝕄} {cs : CoreSpace} {M : Memref sig .tc cs s e} {r : Rect s} {hl : M.view.LoadsAt r.toLoadRect}
    {k : (r.shape.Idx → Elt F e) → Tail F} {q : PosShare TreeShare} {X : s.Idx → Elt F e} :
    has d M q X ⊢ iprop((has d M q X -∗ run d (k fun x => X (r.idx x)) Q)
      -∗ run d (Prog.op (.load M r.toLoadRect hl) k) Q) := by
  unfold has owns
  iintro ⟨%f, %hf, H⟩ Hk
  iapply (wp_load_rect 𝒱₀ (d : Thread nD τ) none Set.univ (m := M) (r := r) (S := M.view.set) (View.set_slice_subset _ _)) $$ H
  iintro H
  rw [show (M.access r).read (Elt F) f = fun x => X (r.idx x) from by subst hf; rfl]
  iapply Hk
  iexists f
  isplitr; · ipureintro; exact hf
  iexact H

/-- A load of a part at any contents, its value dropped. -/
theorem wp_load_room {Q : PUnit.{1} → sProp 𝕄} {cs : CoreSpace} {M : Memref sig .tc cs s e} {r : Rect s} (hr : ∀ a, r.stride a = 1) {hl : M.view.LoadsAt r.toLoadRect}
    {k : Tail F} : room d (M.slice r hr) ⊢ iprop((room d (M.slice r hr) -∗ run d k Q)
      -∗ run d (Prog.op (.load M r.toLoadRect hl) fun _ => k) Q) := by
  iintro ⟨%X, H⟩ Hk
  iapply (wp_load_part d hr) $$ H
  iintro H
  iapply Hk
  iexists X
  iexact H

/-- A store to a part at any contents leaves the stored value in it. -/
theorem wp_store_part {Q : PUnit.{1} → sProp 𝕄} {cs : CoreSpace} {M : Memref sig .tc cs s e} {r : Rect s} (hr : ∀ a, r.stride a = 1)
    {w : r.shape.Idx → Elt F e} {hx : (M.access r).Stores Finset.univ} {hm : (Finset.univ : Finset r.shape.Idx) = Finset.univ ∨ ∀ a, r.stride a = 1}
    {k : Tail F} : room d (M.slice r hr) ⊢ iprop((has d (M.slice r hr) fullShare w -∗ run d k Q)
      -∗ run d (Prog.op (.store M r w Finset.univ hx hm) fun _ => k) Q) := by
  unfold room has owns
  iintro ⟨%X, %f, %hf, H⟩ Hk
  iapply (wp_store 𝒱₀ (d : Thread nD τ) none Set.univ (m := M) (r := r) (Mk := Finset.univ) (S := (M.access r).set) subset_rfl) $$ H
  iintro H
  iapply Hk
  iexists ((M.access r).write (Elt F) f w Finset.univ)
  isplitr
  · ipureintro; exact View.read_write_univ f w
  iexact H

end Ops

section Copies

variable {sp sp' : Space} {s : Shape} {e : EltTy} (d : Dev nD)

/-- Device `d`'s counter of the DMA semaphore `sm` is at zero. -/
abbrev idle (sm : DmaSem sig) : sProp 𝕄 := semVal ((d : Thread nD τ), SemLoc.dma sm) 0

/-- A copy device `d` has started on its semaphore, which delivers `D` when waited for. -/
abbrev flight (sm : DmaSem sig) (N : ℕ) (D : sProp 𝕄) : sProp 𝕄 :=
  Transfers.Flight (countersEmb (U := UU)) (d : Thread nD τ) (.dma sm) () N D

/-- What device `d` owes, whatever it has waited on. -/
abbrev owing (O : CellTallies nD τ sig Unit) : sProp 𝕄 := iprop(∃ W : Waits sig Unit, owes (d : Thread nD τ) O W)

/-- Starting a copy on the device lends the source's share and the destination to the flight. -/
theorem wp_copy {Q : PUnit.{1} → sProp 𝕄} {src : Memref sig .tc sp s e} {dst : Memref sig .tc sp' s e} {sm : DmaSem sig}
    {hsrc : src.view.WordExact} {hdst : dst.view.WordExact} {hsem : (DmaTarget.here dst : DmaTarget nD τ sig .tc sp' s e).Typed sp (.dma sm)}
    {k : Tail F} {q : PosShare TreeShare} {X : s.Idx → Elt F e} (h0 : 0 < dst.view.dmaCredit) :
    iprop(has d src q X ∗ room d dst ∗ idle d sm)
      ⊢ iprop((flight d sm dst.view.dmaCredit iprop(has d dst fullShare X ∗ has d src q X) -∗ run d k Q)
          -∗ run d (Prog.op (.enqueueDma src (.here dst) (.dma sm) hsrc hdst hsem) fun _ => k) Q) := by
  unfold room has owns
  iintro ⟨⟨%f, %hf, Hs⟩, ⟨%Y, %g, %hg, Hd⟩, Hi⟩ Hk
  iapply (Transfers.wp_dmaLocal (countersEmb (U := UU)) 𝒱₀ (d : Thread nD τ) none (Sd := dst.view.set) (via := ReadAs.same)
    () dst.view.dmaCredit rfl h0 subset_rfl) $$ [Hs Hd Hi]
  · isplitl [Hs]; · iexact Hs
    isplitl [Hd]; · iexact Hd
    iexact Hi
  iintro Hf
  iapply Hk
  iapply (Transfers.Flight_mono (countersEmb (U := UU)) (d : Thread nD τ) ?_)
  rotate_left
  · iexact Hf
  iintro ⟨Hd, Hs⟩
  isplitl [Hd]
  · iexists (dst.view.write (Elt F) g (src.view.read (Elt F) f) Finset.univ)
    isplitr; · ipureintro; rw [View.read_write_univ]; exact hf
    iexact Hd
  · iexists f
    isplitr; · ipureintro; exact hf
    iexact Hs

/-- Waiting for a copy on the device gives what it delivers. -/
theorem wp_landed {Q : PUnit.{1} → sProp 𝕄} {sp₁ sp₂ : Space} {s₁ s₂ : Shape} {e₁ e₂ : EltTy} {srcw : Memref sig .tc sp₁ s₁ e₁} {dstw : Memref sig .tc sp₂ s₂ e₂} {sm : DmaSem sig}
    {hsrc : srcw.view.WordExact} {hdst : dstw.view.WordExact} {k : Tail F} {D : sProp 𝕄} {N : ℕ} (hN : dstw.view.dmaCredit = N)
    {O : CellTallies nD τ sig Unit} :
    iprop(flight d sm N D ∗ owing d O ∗ MayWait (d : Thread nD τ) (.dma sm) () O)
      ⊢ iprop((iprop(D ∗ idle d sm ∗ owing d O) -∗ run d k Q)
          -∗ run d (Prog.op (.waitDma2 sm srcw dstw hsrc hdst) fun _ => k) Q) := by
  iintro ⟨Hf, ⟨%W, Ho⟩, Hw⟩ Hk
  iapply (Transfers.wp_waitLocalO (countersEmb (U := UU)) 𝒱₀ (d : Thread nD τ) none () hN) $$ [Hf Ho Hw]
  · isplitl [Hf]; · iexact Hf
    isplitl [Ho]; · iexact Ho
    iexact Hw
  iintro ⟨HD, Hi, Ho⟩
  iapply Hk
  isplitl [HD]; · iexact HD
  isplitl [Hi]; · iexact Hi
  iexists _
  iexact Ho

end Copies

section Cutting

variable {sp : Space} {s : Shape} {e : EltTy} (d : Dev nD) (M : Memref sig .tc sp s e) (q : PosShare TreeShare)

omit [FloatOps F] in
/-- Lend a rectangle of a part: the rest is kept as the way back. -/
theorem has_lend (r : Rect s) (hr : ∀ a, r.stride a = 1) (X : s.Idx → Elt F e) :
    has d M q X ⊢ iprop(has d (M.slice r hr) q (fun x => X (r.idx x)) ∗ (has d (M.slice r hr) q (fun x => X (r.idx x)) -∗ has d M q X)) := by
  unfold has owns
  iintro ⟨%f, %hf, H⟩
  have hsub : (M.slice r hr).view.set ⊆ M.view.set := View.set_slice_subset _ _
  ihave H' := (pointsTo_split_subset hsub).1 $$ H
  icases H' with ⟨Hr, Hrest⟩
  isplitl [Hr]
  · iexists f
    isplitr; · ipureintro; subst hf; rfl
    iexact Hr
  iintro ⟨%g, %hg, Hr⟩
  iexists f
  isplitr; · ipureintro; exact hf
  iapply (pointsTo_split_subset hsub).2
  isplitl [Hr]
  · have hfg : ∀ i ∈ (M.slice r hr).view.set, f i = g i := by
      intro i hi
      obtain ⟨x, -, rfl⟩ := Finset.mem_map.mp hi
      have h1 := congrFun hg x
      have h2 : (M.slice r hr).view.read (Elt F) f x = X (r.idx x) := by subst hf; rfl
      rw [← h2] at h1
      exact eq_of_heq (((cast_heq _ _).symm.trans (heq_of_eq h1.symm)).trans (cast_heq _ _))
    iapply (Entails.of_eq (show ((M.view.loc (d : Thread nD τ)) ↦[(M.slice r hr).view.set]{q} g : sProp 𝕄)
      = ((M.view.loc (d : Thread nD τ)) ↦[(M.slice r hr).view.set]{q} f) from (pointsTo_congr hfg).symm))
    iexact Hr
  iexact Hrest

variable {T : Type} [Fintype T] [DecidableEq T] (r : T → Rect s) (hr : ∀ t a, (r t).stride a = 1)
  (hd : ∀ t t', t ≠ t' → Disjoint (r t).set (r t').set)
  (hcov : (Finset.univ : Finset T).biUnion (fun t => (r t).set) = Finset.univ)

omit [FloatOps F] in
include hd hcov in
/-- A part at any contents is the parts that tile it, each at any contents. -/
theorem room_cut : (room d M : sProp 𝕄) ⊢ bigSep Finset.univ fun t => room d (M.slice (r t) (hr t)) := by
  iintro ⟨%X, H⟩
  iapply (show (bigSep Finset.univ fun t => has d (M.slice (r t) (hr t)) fullShare (fun j => X ((r t).emb j)) : sProp 𝕄)
      ⊢ bigSep Finset.univ fun t => room d (M.slice (r t) (hr t)) from bigSep_mono fun t _ => has_room d _ _)
  iapply (owns_rects (d : Thread nD τ) M fullShare r hr hd hcov X)
  iexact H

include hd in
/-- The parts that tile a buffer, each at its contents, are the buffer at the contents put together. -/
theorem has_glue (Z : (t : T) → (r t).shape.Idx → Elt F e) :
    (bigSep Finset.univ fun t => has d (M.slice (r t) (hr t)) q (Z t) : sProp 𝕄) ⊢ has d M q (Rect.glue r hcov Z) := by
  have hg (t : T) : (fun j => Rect.glue r hcov Z ((r t).emb j)) = Z t := funext fun y => Rect.glue_emb r hcov hd Z t y
  iintro H
  iapply (owns_of_rects (d : Thread nD τ) M q r hr hd hcov (Rect.glue r hcov Z))
  simp only [hg]
  iexact H

include hd hcov in
/-- The parts that tile a buffer, each at any contents, are the buffer at some contents. -/
theorem room_glue : (bigSep Finset.univ fun t => room d (M.slice (r t) (hr t)) : sProp 𝕄) ⊢ room d M := by
  iintro H
  ihave H' := (BI.bigSep_exists_pi Finset.univ (fun t X => has d (M.slice (r t) (hr t)) fullShare X)) $$ H
  icases H' with ⟨%Z, H⟩
  iexists (Rect.glue r hcov Z)
  iapply (has_glue d M fullShare r hr hd hcov Z)
  iexact H

end Cutting

end Cert.Overlap

end
-- ==== Proof.Contents.lean ====
module

public import proofs.«01_k».proof.Proof.Views

/-! # What the buffers hold

The parts that tile each buffer, and the contents each part takes in the course of the kernel, as functions of the
devices' arguments `m`. -/

@[expose] public section

set_option maxRecDepth 16384

noncomputable section

namespace Cert.Overlap

open Cert.KernelIdeal Cert.KernelIdeal.Gen

open Idealize.ShloMosaic
open Idealize.ShloMosaic.TcCoe

variable {F : FTy → Type} [FloatOps F]

/-! ## The tilings -/

/-- Two unit-stride rectangles apart on one axis are disjoint. -/
theorem Rect.disjoint_unit {s : Shape} {off size off' size' : Fin s.rank → ℕ} {h} {h'} (a : Fin s.rank)
    (hsep : off a + size a ≤ off' a ∨ off' a + size' a ≤ off a) :
    Disjoint (Rect.unit (s := s) off size h).set (Rect.unit (s := s) off' size' h').set := by
  rw [Finset.disjoint_left]
  intro i h₁ h₂
  have e₁ := Rect.mem_set_unit.mp h₁ a
  have e₂ := Rect.mem_set_unit.mp h₂ a
  omega

/-- A family of rectangles covers a shape when every index is in one of them. -/
theorem Rect.cover_of {s : Shape} {T : Type} [Fintype T] (r : T → Rect s) (h : ∀ i : s.Idx, ∃ t, i ∈ (r t).set) :
    (Finset.univ : Finset T).biUnion (fun t => (r t).set) = Finset.univ :=
  Finset.eq_univ_iff_forall.mpr fun i => by
    obtain ⟨t, ht⟩ := h i
    exact Finset.mem_biUnion.mpr ⟨t, Finset.mem_univ t, ht⟩

theorem rowsR_disjoint (i j : Fin 4) (h : i ≠ j) : Disjoint (rowsR i).set (rowsR j).set := by
  have : i.val ≠ j.val := fun e => h (Fin.ext e)
  refine Rect.disjoint_unit 0 ?_
  show 512 * i.val + 512 ≤ 512 * j.val ∨ 512 * j.val + 512 ≤ 512 * i.val
  omega

theorem rowsR_cover : (Finset.univ : Finset (Fin 4)).biUnion (fun t => (rowsR t).set) = Finset.univ :=
  Rect.cover_of _ fun i => by
    have h0 : (i 0).val < 2048 := (i 0).isLt
    have h1 : (i 1).val < 2048 := (i 1).isLt
    refine ⟨⟨(i 0).val / 512, by omega⟩, Rect.mem_set_unit.mpr fun a => ?_⟩
    fin_cases a
    · show 512 * ((i 0).val / 512) ≤ (i 0).val ∧ (i 0).val < 512 * ((i 0).val / 512) + 512
      omega
    · show 0 ≤ (i 1).val ∧ (i 1).val < 0 + 2048
      omega

section Slots

/-- Rectangles that each take one place of the first axis are disjoint when the places differ. -/
theorem slot_disjoint {K A B i j : ℕ} {h} {h'} (hij : i ≠ j) :
    Disjoint (Rect.unit (s := ⟨3, ![K, A, B]⟩) ![i, 0, 0] ![1, A, B] h).set (Rect.unit (s := ⟨3, ![K, A, B]⟩) ![j, 0, 0] ![1, A, B] h').set := by
  refine Rect.disjoint_unit (s := ⟨3, ![K, A, B]⟩) (0 : Fin 3) ?_
  show i + 1 ≤ j ∨ j + 1 ≤ i
  omega

/-- They cover when every place is taken. -/
theorem slot_cover {K A B : ℕ} (inb : ∀ s : Fin K, ∀ a, (![s.val, 0, 0] : Fin 3 → ℕ) a + (![1, A, B] : Fin 3 → ℕ) a ≤ (![K, A, B] : Fin 3 → ℕ) a) :
    (Finset.univ : Finset (Fin K)).biUnion (fun t => (Rect.unit (s := ⟨3, ![K, A, B]⟩) ![t.val, 0, 0] ![1, A, B] (inb t)).set) = Finset.univ :=
  Rect.cover_of _ fun i => by
    have h1 : (i 1).val < A := (i 1).isLt
    have h2 : (i 2).val < B := (i 2).isLt
    refine ⟨i 0, Rect.mem_set_unit.mpr fun a => ?_⟩
    fin_cases a
    · show (i 0).val ≤ (i 0).val ∧ (i 0).val < (i 0).val + 1
      omega
    · show 0 ≤ (i 1).val ∧ (i 1).val < 0 + A
      omega
    · show 0 ≤ (i 2).val ∧ (i 2).val < 0 + B
      omega

theorem xstR_disjoint (i j : Fin 2) (h : i ≠ j) : Disjoint (xstR i).set (xstR j).set := slot_disjoint fun e => h (Fin.ext e)
theorem dyvR_disjoint (i j : Fin 3) (h : i ≠ j) : Disjoint (dyvR i).set (dyvR j).set := slot_disjoint fun e => h (Fin.ext e)
theorem redR_disjoint (i j : Fin 4) (h : i ≠ j) : Disjoint (redR i).set (redR j).set := slot_disjoint fun e => h (Fin.ext e)
theorem recvR_disjoint (i j : Fin 16) (h : i ≠ j) : Disjoint (recvR i).set (recvR j).set := slot_disjoint fun e => h (Fin.ext e)
theorem xstR_cover : (Finset.univ : Finset (Fin 2)).biUnion (fun t => (xstR t).set) = Finset.univ := slot_cover _
theorem dyvR_cover : (Finset.univ : Finset (Fin 3)).biUnion (fun t => (dyvR t).set) = Finset.univ := slot_cover _
theorem redR_cover : (Finset.univ : Finset (Fin 4)).biUnion (fun t => (redR t).set) = Finset.univ := slot_cover _
theorem recvR_cover : (Finset.univ : Finset (Fin 16)).biUnion (fun t => (recvR t).set) = Finset.univ := slot_cover _

end Slots

theorem offOth_eq (d : Dev nD) (s : Fin 4) : offOth d s = ![s.val, 1024 - 1024 * (d.val % 2), 0] := by
  unfold offOth; rw [k0_off4_eq]; rfl
theorem offOwn_eq (d : Dev nD) (s : Fin 4) : offOwn d s = ![s.val, 1024 * (d.val % 2), 0] := by
  unfold offOwn; rw [k0_off6_eq]; rfl

/-- A part of the ring of partial products: a slot's half for the partner (left) or for the device (right). -/
abbrev offP (d : Dev nD) : Fin 4 ⊕ Fin 4 → Fin 3 → ℕ
  | .inl s => offOth d s
  | .inr s => offOwn d s
theorem offP_inb (d : Dev nD) : ∀ t a, offP d t a + S1x1024x256.size a ≤ S4x2048x256.size a
  | .inl s => offOth_inb d s
  | .inr s => offOwn_inb d s
abbrev pR (d : Dev nD) (t : Fin 4 ⊕ Fin 4) : Rect S4x2048x256 := Rect.unit (s := S4x2048x256) (offP d t) S1x1024x256.size (offP_inb d t)

theorem offP_eq (d : Dev nD) : ∀ t, offP d t = ![(Sum.elim id id t).val, Sum.elim (fun _ => 1024 - 1024 * (d.val % 2)) (fun _ => 1024 * (d.val % 2)) t, 0]
  | .inl s => offOth_eq d s
  | .inr s => offOwn_eq d s

theorem pR_disjoint (d : Dev nD) (t t' : Fin 4 ⊕ Fin 4) (h : t ≠ t') : Disjoint (pR d t).set (pR d t').set := by
  have hd := Nat.mod_two_eq_zero_or_one d.val
  by_cases hs : (Sum.elim id id t).val = (Sum.elim id id t').val
  · refine Rect.disjoint_unit (1 : Fin 3) ?_
    rw [offP_eq, offP_eq]
    rcases t with s | s <;> rcases t' with s' | s'
    · exact absurd (congrArg Sum.inl (Fin.ext hs)) h
    · show 1024 - 1024 * (d.val % 2) + 1024 ≤ 1024 * (d.val % 2) ∨ 1024 * (d.val % 2) + 1024 ≤ 1024 - 1024 * (d.val % 2)
      omega
    · show 1024 * (d.val % 2) + 1024 ≤ 1024 - 1024 * (d.val % 2) ∨ 1024 - 1024 * (d.val % 2) + 1024 ≤ 1024 * (d.val % 2)
      omega
    · exact absurd (congrArg Sum.inr (Fin.ext hs)) h
  · refine Rect.disjoint_unit (0 : Fin 3) ?_
    rw [offP_eq, offP_eq]
    show (Sum.elim id id t).val + 1 ≤ (Sum.elim id id t').val ∨ (Sum.elim id id t').val + 1 ≤ (Sum.elim id id t).val
    omega

theorem pR_cover (d : Dev nD) : (Finset.univ : Finset (Fin 4 ⊕ Fin 4)).biUnion (fun t => (pR d t).set) = Finset.univ :=
  Rect.cover_of _ fun i => by
    have hd := Nat.mod_two_eq_zero_or_one d.val
    have h1 : (i 1).val < 2048 := (i 1).isLt
    have h2 : (i 2).val < 256 := (i 2).isLt
    by_cases hh : 1024 * (d.val % 2) ≤ (i 1).val ∧ (i 1).val < 1024 * (d.val % 2) + 1024
    · refine ⟨.inr (i 0), Rect.mem_set_unit.mpr ?_⟩
      rw [offP_eq]
      intro a
      fin_cases a
      · show (i 0).val ≤ (i 0).val ∧ (i 0).val < (i 0).val + 1
        omega
      · exact hh
      · show 0 ≤ (i 2).val ∧ (i 2).val < 0 + 256
        omega
    · refine ⟨.inl (i 0), Rect.mem_set_unit.mpr ?_⟩
      rw [offP_eq]
      intro a
      fin_cases a
      · show (i 0).val ≤ (i 0).val ∧ (i 0).val < (i 0).val + 1
        omega
      · show 1024 - 1024 * (d.val % 2) ≤ (i 1).val ∧ (i 1).val < 1024 - 1024 * (d.val % 2) + 1024
        omega
      · show 0 ≤ (i 2).val ∧ (i 2).val < 0 + 256
        omega

/-- Where a piece of the result starts: a chunk of this device's half (left) or of the other mesh row's (right). -/
abbrev offOut (d : Dev nD) : Fin 16 ⊕ Fin 16 → Fin 2 → ℕ
  | .inl c => k0_off13 d (BitVec.ofNat 32 (256 * c.val))
  | .inr c => k0_off17 d (BitVec.ofNat 32 (256 * c.val))
theorem offOut_inb (d : Dev nD) : ∀ t a, offOut d t a + S1024x256.size a ≤ S1024x8192.size a
  | .inl c => k0_off13_inb d c
  | .inr c => k0_off17_inb d c
abbrev pieceR (d : Dev nD) (t : Fin 16 ⊕ Fin 16) : Rect S1024x8192 := Rect.unit (s := S1024x8192) (offOut d t) S1024x256.size (offOut_inb d t)

theorem offOut_eq (d : Dev nD) : ∀ t, offOut d t = ![0, Sum.elim (fun c : Fin 16 => 4096 * (d.val / 2) + 256 * c.val) (fun c : Fin 16 => (256 * c.val + 4096) - 4096 * (d.val / 2)) t]
  | .inl c => k0_off13_eq d c
  | .inr c => k0_off17_eq d c

theorem pieceR_disjoint (d : Dev nD) (t t' : Fin 16 ⊕ Fin 16) (h : t ≠ t') : Disjoint (pieceR d t).set (pieceR d t').set := by
  have hd : d.val < 4 := d.isLt
  refine Rect.disjoint_unit (1 : Fin 2) ?_
  rw [offOut_eq, offOut_eq]
  rcases t with c | c <;> rcases t' with c' | c' <;> have hc := c.isLt <;> have hc' := c'.isLt
  · have : c.val ≠ c'.val := fun e => h (congrArg Sum.inl (Fin.ext e))
    show 4096 * (d.val / 2) + 256 * c.val + 256 ≤ 4096 * (d.val / 2) + 256 * c'.val ∨ 4096 * (d.val / 2) + 256 * c'.val + 256 ≤ 4096 * (d.val / 2) + 256 * c.val
    omega
  · show 4096 * (d.val / 2) + 256 * c.val + 256 ≤ (256 * c'.val + 4096) - 4096 * (d.val / 2) ∨ (256 * c'.val + 4096) - 4096 * (d.val / 2) + 256 ≤ 4096 * (d.val / 2) + 256 * c.val
    omega
  · show (256 * c.val + 4096) - 4096 * (d.val / 2) + 256 ≤ 4096 * (d.val / 2) + 256 * c'.val ∨ 4096 * (d.val / 2) + 256 * c'.val + 256 ≤ (256 * c.val + 4096) - 4096 * (d.val / 2)
    omega
  · have : c.val ≠ c'.val := fun e => h (congrArg Sum.inr (Fin.ext e))
    show (256 * c.val + 4096) - 4096 * (d.val / 2) + 256 ≤ (256 * c'.val + 4096) - 4096 * (d.val / 2) ∨ (256 * c'.val + 4096) - 4096 * (d.val / 2) + 256 ≤ (256 * c.val + 4096) - 4096 * (d.val / 2)
    omega

theorem pieceR_cover (d : Dev nD) : (Finset.univ : Finset (Fin 16 ⊕ Fin 16)).biUnion (fun t => (pieceR d t).set) = Finset.univ :=
  Rect.cover_of _ fun i => by
    have hd : d.val < 4 := d.isLt
    have h0 : (i 0).val < 1024 := (i 0).isLt
    have h1 : (i 1).val < 8192 := (i 1).isLt
    by_cases hh : (i 1).val / 4096 = d.val / 2
    · refine ⟨.inl ⟨(i 1).val % 4096 / 256, by omega⟩, Rect.mem_set_unit.mpr ?_⟩
      rw [offOut_eq]
      intro a
      fin_cases a
      · show 0 ≤ (i 0).val ∧ (i 0).val < 0 + 1024
        omega
      · show 4096 * (d.val / 2) + 256 * ((i 1).val % 4096 / 256) ≤ (i 1).val ∧ (i 1).val < 4096 * (d.val / 2) + 256 * ((i 1).val % 4096 / 256) + 256
        omega
    · refine ⟨.inr ⟨(i 1).val % 4096 / 256, by omega⟩, Rect.mem_set_unit.mpr ?_⟩
      rw [offOut_eq]
      intro a
      fin_cases a
      · show 0 ≤ (i 0).val ∧ (i 0).val < 0 + 1024
        omega
      · show (256 * ((i 1).val % 4096 / 256) + 4096) - 4096 * (d.val / 2) ≤ (i 1).val ∧ (i 1).val < (256 * ((i 1).val % 4096 / 256) + 4096) - 4096 * (d.val / 2) + 256
        omega

/-! ## The neighbours -/

theorem xnbr_xnbr (d : Dev nD) : xnbr (xnbr d) = d := by revert d; decide +kernel
theorem ynbr_ynbr (d : Dev nD) : ynbr (ynbr d) = d := by revert d; decide +kernel

/-! ## The contents -/

section Values

variable (m : (ℓ : Loc nD τ sig) → Buf (Elt F) ℓ) (d : Dev nD)

/-- Device `d`'s block of x. -/
def xAt : Vec F S2048x2048 .f32 := m ((d : Thread nD τ).loc main_arg0)
/-- Device `d`'s block of dy. -/
def dyAt : Vec F S2048x8192 .f32 := m ((d : Thread nD τ).loc main_arg1)

/-- Tile `i` of x, as its staging slot holds it. -/
def xTile (i : Fin 4) : Vec F S1x512x2048 .f32 :=
  fun x => xAt m d ((rowsR i).idx ((Shape.reshapeEquiv squeezes_S1x512x2048_S512x2048.numel_eq).symm x))
/-- The resident copy of x, narrowed tile by tile. -/
def x16 : Vec F S2048x2048 .bf16 := Rect.glue rowsR rowsR_cover fun i => k0_pay1 (xTile m d i)
/-- Chunk `c` of dy, as its slot holds it. -/
def dyTile (c : Fin 16) : Vec F S1x2048x256 .f32 :=
  fun x => dyAt m d ((dyR d c).idx ((Shape.reshapeEquiv squeezes_S1x2048x256_S2048x256.numel_eq).symm x))
/-- The product device `d` forms of chunk `c` for the other mesh column. -/
def sent (c : Fin 16) : Vec F S1x1024x256 .bf16 := k0_pay11 (dyTile m d c) (fun x => x16 m d ((colsOthR d).idx x))
/-- The product device `d` forms of chunk `c` for itself. -/
def kept (c : Fin 16) : Vec F S1x1024x256 .bf16 := k0_pay11 (dyTile m d c) (fun x => x16 m d ((colsOwnR d).idx x))
/-- Chunk `c` reduced over the two mesh columns. -/
def red (c : Fin 16) : Vec F S1x1024x256 .bf16 := k0_pay43 (k0_pay42 (kept m d c) (sent m (ynbr d) c))
/-- The reduced chunk, without the slot's axis. -/
def redFlat (c : Fin 16) : Vec F S1024x256 .bf16 := fun j => red m d c (Shape.reshapeEquiv squeezes_S1x1024x256_S1024x256.numel_eq j)
/-- What each piece of the result holds: the device's own chunks and the other mesh row's. -/
def piece : (t : Fin 16 ⊕ Fin 16) → Vec F S1024x256 .bf16
  | .inl c => redFlat m d c
  | .inr c => redFlat m (xnbr d) c
/-- Device `d`'s block of the result. -/
def outAt : Vec F S1024x8192 .bf16 := Rect.glue (pieceR d) (pieceR_cover d) (piece m d)

end Values

end Cert.Overlap

end
-- ==== Proof.Protocol.lean ====
module

public import proofs.«01_k».proof.Proof.Contents

/-! # The protocol between the devices

Device `d` has 65 cells that other devices, or its own transfers, credit: the barrier, and for each chunk the four
cells of its two exchanges (0: the partial product has left, 1: the partner's has arrived, 2: the reduced chunk has
left, 3: the other row's has arrived). Each is waited on once, in one round. The barrier's two units hand `d` the
buffers its neighbours receive into; an arrival hands it the chunk with its contents. -/

@[expose] public section

set_option maxRecDepth 16384

noncomputable section

namespace Cert.Overlap

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

/-! ## The cells -/

/-- The barrier, or a chunk's cell of one of the four kinds. -/
abbrev Ring : Type := Option (Fin 4 × Fin 16)

/-- The semaphore of a chunk's cell. -/
def chanSem : Fin 4 → Fin 16 → DmaSem sig
  | 0, c => rsSend c
  | 1, c => rsRecv c
  | 2, c => agSend c
  | 3, c => agRecv c

def semOf : Ring → SemLoc sig
  | none => .reg barSem
  | some (k, c) => .dma (chanSem k c)

abbrev kcell (x : Dev nD × Ring) : GSem nD τ sig := ((x.1 : Thread nD τ), semOf x.2)

/-- The cell a semaphore is, if it is one of the protocol's. -/
def decode : SemLoc sig → Option Ring
  | .reg s => if s = barSem then some none else none
  | .dma q => if h : 25 ≤ q.val ∧ q.val < 89 then
      some (some (⟨(q.val - 25) / 16, by omega⟩, ⟨(q.val - 25) % 16, Nat.mod_lt _ (by decide)⟩)) else none

theorem decode_semOf : ∀ g : Ring, decode (semOf g) = some g := by decide +kernel

theorem semOf_injective : Function.Injective semOf := fun a b h =>
  Option.some.inj ((decode_semOf a).symm.trans ((congrArg decode h).trans (decode_semOf b)))

theorem kcell_injective : Function.Injective kcell := fun a b h =>
  Prod.ext (congrArg (fun g : GSem nD τ sig => g.1.1) h) (semOf_injective (congrArg Prod.snd h))

/-! ## The schedule -/

/-- The bytes' credit of one chunk's transfer. -/
abbrev N : ℕ := (rsV 0).view.dmaCredit
theorem N_pos : 0 < N := View.dmaCredit_pos _ (by decide)

section Sched

variable (m : (ℓ : Loc nD τ sig) → Buf (Elt F) ℓ)

/-- A product without the slot's axis. -/
abbrev flat (X : Vec F S1x1024x256 .bf16) : Vec F S1024x256 .bf16 :=
  fun j => X (Shape.reshapeEquiv squeezes_S1x1024x256_S1024x256.numel_eq j)

/-- What a duty of a cell hands device `d`. -/
def pay (d : Dev nD) : Ring → Bool → sProp 𝕄
  | none, false => bigSep Finset.univ fun c : Fin 16 => room (ynbr d) (rsV c)
  | none, true => bigSep Finset.univ fun c : Fin 16 => room (xnbr d) (agV c)
  | some (0, c), _ => room d (othV d (slot4 c))
  | some (1, c), _ => has d (rsV c) fullShare (flat (sent m (ynbr d) c))
  | some (2, c), _ => has d (redV (slot4 c)) fullShare.right (redFlat m d c)
  | some (3, c), _ => has d (agV c) fullShare (redFlat m (xnbr d) c)

instance pay_storable (d : Dev nD) (g : Ring) (b : Bool) : BI.Storable (upEmb : UEmb _ 𝕄) (pay (F := F) m d g b) := by
  unfold pay
  split <;> infer_instance

/-- Round 0's duties: the barrier has one for each neighbour, a chunk's cell has one. -/
def ringDuties : Option Ring → Finset Bool
  | none => ∅
  | some none => Finset.univ
  | some (some _) => {false}

def ringAmount : Option Ring → ℕ
  | some (some _) => N
  | _ => 1

def sched : Rounds.Schedule (GSem nD τ sig) Bool 𝕄 where
  duties g r := if r = 0 ∧ g.1.2 = .tc then ringDuties (decode g.2) else ∅
  unitless _ := False
  amount g _ _ := ringAmount (decode g.2)
  payload g _ b := match decode g.2 with
    | some x => pay m g.1.1 x b
    | none => iprop(emp)
  amount_pos g _ _ _ := by
    unfold ringAmount
    split
    · exact N_pos
    · exact Nat.one_pos

instance sched_storable (g : GSem nD τ sig) (r : ℕ) (b : Bool) : BI.Storable (upEmb : UEmb _ 𝕄) ((sched (F := F) m).payload g r b) := by
  show BI.Storable upEmb (match decode g.2 with | some x => pay m g.1.1 x b | none => iprop(emp))
  split <;> infer_instance

theorem sched_duties (x : Dev nD × Ring) : (sched (F := F) m).duties (kcell x) 0 = ringDuties (some x.2) := by
  show (if 0 = 0 ∧ (kcell x).1.2 = .tc then ringDuties (decode (semOf x.2)) else ∅) = _
  rw [if_pos ⟨rfl, rfl⟩, decode_semOf]

theorem sched_later (g : GSem nD τ sig) : ∀ r, 1 ≤ r → (sched (F := F) m).duties g r = ∅ :=
  fun r hr => if_neg fun h => by omega

theorem sched_amount (x : Dev nD × Ring) (r : ℕ) (b : Bool) : (sched (F := F) m).amount (kcell x) r b = ringAmount (some x.2) := by
  show ringAmount (decode (semOf x.2)) = _
  rw [decode_semOf]

theorem sched_payload (x : Dev nD × Ring) (r : ℕ) (b : Bool) : (sched (F := F) m).payload (kcell x) r b = pay m x.1 x.2 b := by
  show (match decode (semOf x.2) with | some y => pay m x.1 y b | none => iprop(emp)) = _
  rw [decode_semOf]

theorem sched_expect_chan (d : Dev nD) (k : Fin 4) (c : Fin 16) : (sched (F := F) m).expect (kcell (d, some (k, c))) 0 = N := by
  unfold Schedule.expect Schedule.amountOf
  rw [sched_duties]
  exact (Finset.sum_singleton _ _).trans (sched_amount m _ _ _)

theorem sched_expect_bar (d : Dev nD) : (sched (F := F) m).expect (kcell (d, none)) 0 = 2 := by
  unfold Schedule.expect Schedule.amountOf
  rw [sched_duties]
  simp only [sched_amount]
  rfl

theorem rest_chan (d : Dev nD) (k : Fin 4) (c : Fin 16) :
    bigSep ((sched (F := F) m).duties (kcell (d, some (k, c))) 0 \ ∅) (fun b => (sched (F := F) m).payload (kcell (d, some (k, c))) 0 b)
      = pay m d (some (k, c)) false := by
  rw [Finset.sdiff_empty, sched_duties]
  exact bigSep_singleton.trans (sched_payload m _ _ _)

theorem rest_bar (d : Dev nD) :
    bigSep ((sched (F := F) m).duties (kcell (d, none)) 0 \ ∅) (fun b => (sched (F := F) m).payload (kcell (d, none)) 0 b)
      = iprop(pay m d none false ∗ pay m d none true) := by
  rw [Finset.sdiff_empty, sched_duties]
  simp only [sched_payload]
  exact bigSep_univ_eq_bigSepL [false, true] (by decide) (by decide) _

end Sched

/-! ## What a device still owes -/

section Due

variable {M : Type} [AddCommMonoid M] (f : Fin 16 → M)

/-- The terms of the chunks from `n` on. -/
def due (n : ℕ) : M := ∑ c : Fin 16, if n ≤ c.val then f c else 0

/-- The first of the remaining chunks apart. -/
theorem due_peel (c : Fin 16) : due f c.val = due f (c.val + 1) + f c := by
  unfold due
  rw [← Finset.sum_ite_eq' Finset.univ c f |>.trans (if_pos (Finset.mem_univ c)), ← Finset.sum_add_distrib]
  refine Finset.sum_congr rfl fun x _ => ?_
  by_cases h : x = c
  · subst h; simp
  · have h' : x.val ≠ c.val := fun e => h (Fin.ext e)
    rw [if_neg h, add_zero]
    by_cases hle : c.val ≤ x.val
    · rw [if_pos hle, if_pos (by omega)]
    · rw [if_neg hle, if_neg (by omega)]

theorem due_end : due f 16 = 0 := Finset.sum_eq_zero fun c _ => if_neg (by omega)

theorem due_start : due f 0 = ∑ c, f c := Finset.sum_congr rfl fun c _ => if_pos (Nat.zero_le _)

end Due

/-- What device `d` owes when it has sent the partial products of the chunks below `n` and the reduced chunks below `k`. -/
def Due (d : Dev nD) (n k : ℕ) : CellTallies nD τ sig Unit :=
  due (fun c => tallyAt (kcell (ynbr d, some (1, c))) () N) n + due (fun c => tallyAt (kcell (xnbr d, some (3, c))) () N) k

theorem Due_rs (d : Dev nD) (c : Fin 16) (k : ℕ) : Due d c.val k = Due d (c.val + 1) k + tallyAt (kcell (ynbr d, some (1, c))) () N := by
  unfold Due; rw [due_peel _ c]; exact add_right_comm _ _ _
theorem Due_ag (d : Dev nD) (n : ℕ) (c : Fin 16) : Due d n c.val = Due d n (c.val + 1) + tallyAt (kcell (xnbr d, some (3, c))) () N := by
  unfold Due; rw [due_peel _ c, add_assoc]
theorem Due_end (d : Dev nD) : Due d 16 16 = 0 := by unfold Due; rw [due_end, due_end, add_zero]

theorem due_pos {e : Fin 16 → GSem nD τ sig} {n : ℕ} {g : GSem nD τ sig} {u : Unit} (h : 0 < due (fun c => tallyAt (e c) () N) n g u) :
    ∃ c : Fin 16, n ≤ c.val ∧ g = e c := by
  by_contra hn
  push Not at hn
  have : due (fun c => tallyAt (e c) () N) n g u = 0 := by
    unfold due
    rw [Finset.sum_apply, Finsupp.finset_sum_apply]
    refine Finset.sum_eq_zero fun c _ => ?_
    by_cases hc : n ≤ c.val
    · rw [if_pos hc, tallyAt_apply, if_neg fun h' => hn c hc h'.1]
    · rw [if_neg hc]; rfl
  omega

theorem Due_pos {d : Dev nD} {n k : ℕ} {g : GSem nD τ sig} {u : Unit} (h : 0 < Due d n k g u) :
    (∃ c : Fin 16, n ≤ c.val ∧ g = kcell (ynbr d, some (1, c))) ∨ (∃ c : Fin 16, k ≤ c.val ∧ g = kcell (xnbr d, some (3, c))) := by
  unfold Due at h
  rw [Pi.add_apply, Finsupp.add_apply] at h
  rcases Nat.eq_zero_or_pos (due (fun c => tallyAt (kcell (ynbr d, some (1, c))) () N) n g u) with h0 | h0
  · exact .inr (due_pos (h.trans_eq (by rw [h0, zero_add])))
  · exact .inl (due_pos h0)

/-! ## The levels -/

/-- The order in which the cells are waited on: the barrier, then chunk by chunk the two arrivals; what a device
    credits itself is below them all. -/
def lvOf : Option Ring → ℕ
  | some none => 1
  | some (some (1, c)) => 2 * c.val + 2
  | some (some (3, c)) => 2 * c.val + 3
  | _ => 0

def L (g : GSem nD τ sig) : Finset Unit := if g.1.2 = .tc then {()} else ∅
def lv (g : GSem nD τ sig) (_ : Unit) : ℕ := lvOf (decode g.2)
theorem L_of_ne (g : GSem nD τ sig) (h : g.1.2 ≠ .tc) : L g = ∅ := if_neg h
theorem L_tc (c : Dev nD) (sm : SemLoc sig) : L ((c : Thread nD τ), sm) = {()} := if_pos rfl

theorem lv_kcell (x : Dev nD × Ring) (u : Unit) : lv (kcell x) u = lvOf (some x.2) := by
  show lvOf (decode (semOf x.2)) = _; rw [decode_semOf]

/-- A device may wait on a cell below everything it still owes. -/
theorem mayWait (d : Dev nD) (sm : SemLoc sig) {n k : ℕ} (hn : lvOf (decode sm) ≤ 2 * n + 1) (hk : lvOf (decode sm) ≤ 2 * k + 2) :
    (levAts L lv : sProp 𝕄) ⊢ MayWait (d : Thread nD τ) sm () (Due d n k) := by
  refine MayOwe.of_cut (L := L) (lev := lv) (lvOf (decode sm)) (fun p hp => by rw [Finset.mem_singleton.mp hp, L_tc]; exact Finset.mem_singleton_self _)
    (fun g u hg => ?_) (fun p hp => by rw [Finset.mem_singleton.mp hp]; exact le_refl _) (fun g u hg => ?_)
  · rcases Due_pos hg with ⟨c, -, rfl⟩ | ⟨c, -, rfl⟩ <;> exact Finset.mem_singleton_self _
  · rcases Due_pos hg with ⟨c, hc, rfl⟩ | ⟨c, hc, rfl⟩
    · rw [lv_kcell]; show _ < 2 * c.val + 2; omega
    · rw [lv_kcell]; show _ < 2 * c.val + 3; omega

/-- A copy a device makes for itself may always be waited for. -/
theorem mayWait_local (d : Dev nD) (q : DmaSem sig) (hq : q.val < 25) (n k : ℕ) :
    (levAts L lv : sProp 𝕄) ⊢ MayWait (d : Thread nD τ) (.dma q) () (Due d n k) := by
  have h : lvOf (decode (.dma q)) = 0 := by
    have : decode (.dma q) = none := dif_neg (by omega)
    rw [this]; rfl
  exact mayWait d _ (by omega) (by omega)

/-! ## The shared facts -/

/-- One member of a family. -/
theorem member {I : Type} [Fintype I] [DecidableEq I] (i : I) (A : I → sProp 𝕄) : (bigSep Finset.univ A : sProp 𝕄) ⊢ A i :=
  bigSep_elim (Finset.mem_univ i)

section Records

variable (m : (ℓ : Loc nD τ sig) → Buf (Elt F) ℓ) (K : Dev nD × Ring → ℕ)

/-- Every cell's invariant and that it has reached its round, and the levels. -/
def records : sProp 𝕄 :=
  iprop((bigSep Finset.univ fun x : Dev nD × Ring => cellInv ER (sched m) (K x) (kcell x))
    ∗ (bigSep Finset.univ fun x : Dev nD × Ring => reached ER (kcell x) 0) ∗ levAts L lv)

instance records_persistent : BI.Persistent (records m K) := by unfold records; infer_instance

theorem records_inv (x : Dev nD × Ring) : records m K ⊢ cellInv ER (sched m) (K x) (kcell x) := by
  unfold records
  iintro ⟨H, -, -⟩
  iapply (member x fun x : Dev nD × Ring => cellInv ER (sched m) (K x) (kcell x)); iexact H
theorem records_reached (x : Dev nD × Ring) : records m K ⊢ reached ER (kcell x) 0 := by
  unfold records
  iintro ⟨-, H, -⟩
  iapply (member x fun x : Dev nD × Ring => (reached ER (kcell x) 0 : sProp 𝕄)); iexact H
theorem records_lev : records m K ⊢ (levAts L lv : sProp 𝕄) := by
  unfold records
  iintro ⟨-, -, H⟩
  iexact H

end Records

end Cert.Overlap

end
-- ==== Proof.Steps.lean ====
module

public import proofs.«01_k».proof.Proof.Protocol

/-! # The steps of the body

What each step of the body takes and gives, at a symbolic device and chunk. -/

@[expose] public section

set_option maxRecDepth 16384

noncomputable section

namespace Cert.Overlap

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (m : (ℓ : Loc nD τ sig) → Buf (Elt F) ℓ) (K : Dev nD × Ring → ℕ) (d : Dev nD)

/-! ## Fetching -/

/-- The share of x that each staging slot's copies read. -/
def xShare : Fin 2 → PosShare TreeShare := ![fullShare.left, fullShare.right]
/-- The share of dy that each slot's copies read. -/
def dyShare : Fin 3 → PosShare TreeShare := ![fullShare.left, fullShare.right.left, fullShare.right.right]

/-- A staging slot of x at rest, with its share of x. -/
def XFree (s : Fin 2) : sProp 𝕄 := iprop(has d xM (xShare s) (xAt m d) ∗ room d (xstV s) ∗ idle d (xSem s))

/-- Tile `i` of x on its way, with the way its share of x comes back. -/
def XFly (i : Fin 4) : sProp 𝕄 :=
  iprop(flight d (xSem (slot2 i)) (xstV (slot2 i)).view.dmaCredit
      iprop(has d (xstV (slot2 i)) fullShare (fun y => xAt m d ((rowsR i).idx y)) ∗ has d (xV i) (xShare (slot2 i)) (fun y => xAt m d ((rowsR i).idx y)))
    ∗ (has d (xV i) (xShare (slot2 i)) (fun y => xAt m d ((rowsR i).idx y)) -∗ has d xM (xShare (slot2 i)) (xAt m d)))

theorem step_xStart {Q : PUnit.{1} → sProp 𝕄} (i : Fin 4) {k : Tail F} :
    XFree m d (slot2 i) ⊢ iprop((XFly m d i -∗ run d k Q) -∗ run d (xStart i k) Q) := by
  unfold XFree XFly xStart
  iintro ⟨Hx, Hs, Hi⟩ Hk
  ihave Hl := (has_lend d xM (xShare (slot2 i)) (rowsR i) (fun _ => rfl) (xAt m d)) $$ Hx
  icases Hl with ⟨Hx, Hback⟩
  iapply (wp_copy d (View.dmaCredit_pos _ (by decide))) $$ [Hx Hs Hi]
  · isplitl [Hx]; · iexact Hx
    isplitl [Hs]; · iexact Hs
    iexact Hi
  iintro Hf
  iapply Hk
  isplitl [Hf]; · iexact Hf
  iexact Hback

theorem xSem_lt : ∀ s : Fin 2, (xSem s).val < 25 := by decide +kernel
theorem dySem_lt : ∀ s : Fin 3, (dySem s).val < 25 := by decide +kernel
theorem outSem_lt : ∀ s : Fin 4, (outSem s).val < 25 := by decide +kernel
theorem out2Sem_lt : ∀ c : Fin 16, (out2Sem c).val < 25 := by decide +kernel

theorem step_xTake {Q : PUnit.{1} → sProp 𝕄} (i : Fin 4) {k : Tail F} {n n' : ℕ} :
    iprop(records m K ∗ XFly m d i ∗ room d (x16M.slice (rowsR i) (fun _ => rfl)) ∗ owing d (Due d n n'))
      ⊢ iprop((iprop(XFree m d (slot2 i) ∗ has d (x16M.slice (rowsR i) (fun _ => rfl)) fullShare (k0_pay1 (xTile m d i)) ∗ owing d (Due d n n')) -∗ run d k Q)
        -∗ run d (xTake i k) Q) := by
  unfold XFree XFly xTake
  iintro ⟨#HR, ⟨Hf, Hback⟩, H16, Ho⟩ Hk
  iapply (wp_landed d rfl) $$ [Hf Ho]
  · isplitl [Hf]; · iexact Hf
    isplitl [Ho]; · iexact Ho
    iapply (mayWait_local d (xSem (slot2 i)) (xSem_lt _) n n')
    iapply (records_lev m K); iexact HR
  iintro ⟨⟨Hs, Hx⟩, Hi, Ho⟩
  ihave Hx := Hback $$ Hx
  ihave Hs' := (has_squeeze d (xstM.slice (xstR (slot2 i)) (fun _ => rfl)) squeezes_S1x512x2048_S512x2048 fullShare (xTile m d i)).2 $$ [Hs]
  · unfold xTile; simp only [Equiv.symm_apply_apply]; iexact Hs
  iapply (wp_load_part d (fun _ => rfl)) $$ Hs'
  iintro Hs
  iapply (wp_load_room d (fun _ => rfl)) $$ H16
  iintro H16
  iapply (wp_store_part d (fun _ => rfl)) $$ H16
  iintro H16
  iapply Hk
  isplitl [Hx Hs Hi]
  · isplitl [Hx]; · iexact Hx
    isplitl [Hs]
    · iapply (room_squeeze d _ _).1
      iexists _; iexact Hs
    iexact Hi
  isplitl [H16]; · iexact H16
  iexact Ho

/-- A slot of dy at rest, with its share of dy. -/
def DyFree (s : Fin 3) : sProp 𝕄 := iprop(has d dyM (dyShare s) (dyAt m d) ∗ room d (dyvV s) ∗ idle d (dySem s))

/-- Chunk `c` of dy on its way. -/
def DyFly (c : Fin 16) : sProp 𝕄 :=
  iprop(flight d (dySem (slot3 c)) (dyvV (slot3 c)).view.dmaCredit
      iprop(has d (dyvV (slot3 c)) fullShare (fun y => dyAt m d ((dyR d c).idx y)) ∗ has d (dyV d c) (dyShare (slot3 c)) (fun y => dyAt m d ((dyR d c).idx y)))
    ∗ (has d (dyV d c) (dyShare (slot3 c)) (fun y => dyAt m d ((dyR d c).idx y)) -∗ has d dyM (dyShare (slot3 c)) (dyAt m d)))

theorem step_dyStart {Q : PUnit.{1} → sProp 𝕄} (c : Fin 16) {k : Tail F} :
    DyFree m d (slot3 c) ⊢ iprop((DyFly m d c -∗ run d k Q) -∗ run d (dyStart d c k) Q) := by
  unfold DyFree DyFly dyStart
  iintro ⟨Hx, Hs, Hi⟩ Hk
  ihave Hl := (has_lend d dyM (dyShare (slot3 c)) (dyR d c) (fun _ => rfl) (dyAt m d)) $$ Hx
  icases Hl with ⟨Hx, Hback⟩
  iapply (wp_copy d (View.dmaCredit_pos _ (by decide))) $$ [Hx Hs Hi]
  · isplitl [Hx]; · iexact Hx
    isplitl [Hs]; · iexact Hs
    iexact Hi
  iintro Hf
  iapply Hk
  isplitl [Hf]; · iexact Hf
  iexact Hback

theorem step_dyTake {Q : PUnit.{1} → sProp 𝕄} (c : Fin 16) {k : Vec F S1x2048x256 .f32 → Tail F} {n n' : ℕ} :
    iprop(records m K ∗ DyFly m d c ∗ owing d (Due d n n'))
      ⊢ iprop((iprop(DyFree m d (slot3 c) ∗ owing d (Due d n n')) -∗ run d (k (dyTile m d c)) Q) -∗ run d (dyTake d c k) Q) := by
  unfold DyFree DyFly dyTake
  iintro ⟨#HR, ⟨Hf, Hback⟩, Ho⟩ Hk
  iapply (wp_landed d rfl) $$ [Hf Ho]
  · isplitl [Hf]; · iexact Hf
    isplitl [Ho]; · iexact Ho
    iapply (mayWait_local d (dySem (slot3 c)) (dySem_lt _) n n')
    iapply (records_lev m K); iexact HR
  iintro ⟨⟨Hs, Hx⟩, Hi, Ho⟩
  ihave Hx := Hback $$ Hx
  ihave Hs' := (has_squeeze d (dyvM.slice (dyvR (slot3 c)) (fun _ => rfl)) squeezes_S1x2048x256_S2048x256 fullShare (dyTile m d c)).2 $$ [Hs]
  · unfold dyTile; simp only [Equiv.symm_apply_apply]; iexact Hs
  iapply (wp_load_part d (fun _ => rfl)) $$ Hs'
  iintro Hs
  iapply Hk
  isplitl [Hx Hs Hi]
  · isplitl [Hx]; · iexact Hx
    isplitl [Hs]
    · iapply (room_squeeze d _ _).1
      iexists _; iexact Hs
    iexact Hi
  iexact Ho

/-! ## Multiplying -/

/-- The resident copy of x. -/
abbrev X16 : sProp 𝕄 := has d x16M fullShare (x16 m d)

theorem step_mmOth {Q : PUnit.{1} → sProp 𝕄} (c : Fin 16) {k : Tail F} :
    iprop(X16 m d ∗ room d (othV d (slot4 c)))
      ⊢ iprop((iprop(X16 m d ∗ has d (othV d (slot4 c)) fullShare (flat (sent m d c))) -∗ run d k Q) -∗ run d (mmOth d c (dyTile m d c) k) Q) := by
  unfold mmOth
  iintro ⟨H16, Hp⟩ Hk
  ihave Hp' := (room_squeeze d (pM.slice (othR d (slot4 c)) (fun _ => rfl)) squeezes_S1x1024x256_S1024x256).2 $$ Hp
  iapply (wp_load_within d) $$ H16
  iintro H16
  iapply (wp_load_room d (fun _ => rfl)) $$ Hp'
  iintro Hp
  iapply (wp_store_part d (fun _ => rfl)) $$ Hp
  iintro Hp
  iapply Hk
  isplitl [H16]; · iexact H16
  iapply (has_squeeze d (pM.slice (othR d (slot4 c)) (fun _ => rfl)) squeezes_S1x1024x256_S1024x256 fullShare (sent m d c)).1
  iexact Hp

theorem step_mmOwn {Q : PUnit.{1} → sProp 𝕄} (c : Fin 16) {k : Tail F} :
    iprop(X16 m d ∗ room d (pM.slice (ownR d (slot4 c)) (fun _ => rfl)))
      ⊢ iprop((iprop(X16 m d ∗ has d (pM.slice (ownR d (slot4 c)) (fun _ => rfl)) fullShare (kept m d c)) -∗ run d k Q)
        -∗ run d (mmOwn d c (dyTile m d c) k) Q) := by
  unfold mmOwn
  iintro ⟨H16, Hp⟩ Hk
  iapply (wp_load_within d) $$ H16
  iintro H16
  iapply (wp_load_room d (fun _ => rfl)) $$ Hp
  iintro Hp
  iapply (wp_store_part d (fun _ => rfl)) $$ Hp
  iintro Hp
  iapply Hk
  isplitl [H16]; · iexact H16
  iexact Hp

/-! ## The cells -/

/-- Device `d` has yet to wait on its cell `g`. -/
abbrev before (g : Ring) : sProp 𝕄 := atPos ER (kcell (d, g)) 0 ∅ 0
/-- Device `d` has waited on its cell `g`. -/
abbrev past (g : Ring) : sProp 𝕄 := atPos ER (kcell (d, g)) 1 ∅ 0
/-- The credit that will be spent on the cell `g`. -/
abbrev coming (g : Ring) (n : ℕ) : sProp 𝕄 := cred (tallyAt (kcell (d, g)) () n)

/-- Waiting on a chunk's cell gives what its one duty hands over. -/
theorem step_chan {Q : PUnit.{1} → sProp 𝕄} {sp₁ sp₂ : Space} {s₁ s₂ : Shape} {e₁ e₂ : EltTy} {srcw : Memref sig .tc sp₁ s₁ e₁} {dstw : Memref sig .tc sp₂ s₂ e₂}
    (j : Fin 4) (c : Fin 16) {sm : DmaSem sig} (hsm : sm = chanSem j c) {hsrc : srcw.view.WordExact} {hdst : dstw.view.WordExact} {k : Tail F}
    (hN : dstw.view.dmaCredit = N) {n n' : ℕ}
    (hn : lvOf (some (some (j, c))) ≤ 2 * n + 1) (hn' : lvOf (some (some (j, c))) ≤ 2 * n' + 2) :
    iprop(records m K ∗ coming d (some (j, c)) N ∗ before d (some (j, c)) ∗ owing d (Due d n n'))
      ⊢ iprop((iprop(past d (some (j, c)) ∗ pay m d (some (j, c)) false ∗ owing d (Due d n n')) -∗ run d k Q)
        -∗ run d (Prog.op (.waitDma2 sm srcw dstw hsrc hdst) fun _ => k) Q) := by
  subst hsm
  iintro ⟨#HR, Hc, Hat, ⟨%W, Ho⟩⟩ Hk
  iapply (Rounds.wp_wait_rest_token 𝒱₀ ER (sched m) (d : Thread nD τ) none (κ := K (d, some (j, c)))
      (wpE_waitDma2_eq 𝒱₀ (d : Thread nD τ) none Set.univ) (Set.mem_univ _) () (O := Due d n n') (W := W) (R := 0) (m := 0) (T := ∅)
      (by rw [Nat.zero_add, hN]; exact (sched_expect_chan m d j c).symm)) $$ [Hc Ho Hat]
  · isplitr; · iapply (records_inv m K (d, some (j, c))); iexact HR
    isplitl [Hc]; · rw [hN]; iexact Hc
    isplitl [Ho]; · iexact Ho
    isplitr
    · iapply (mayWait d (.dma (chanSem j c)) (by rw [show decode (.dma (chanSem j c)) = _ from decode_semOf (some (j, c))]; exact hn)
        (by rw [show decode (.dma (chanSem j c)) = _ from decode_semOf (some (j, c))]; exact hn'))
      iapply (records_lev m K); iexact HR
    iexact Hat
  iintro ⟨Ho, Hat, -, Hpay⟩
  ihave Hp := (show (bigSep ((sched m).duties ((d : Thread nD τ), SemLoc.dma (chanSem j c)) 0 \ ∅) fun b => (sched m).payload ((d : Thread nD τ), SemLoc.dma (chanSem j c)) 0 b : sProp 𝕄)
    ⊢ pay m d (some (j, c)) false from Entails.of_eq (rest_chan m d j c)) $$ Hpay
  iapply Hk
  isplitl [Hat]; · iexact Hat
  isplitl [Hp]; · iexact Hp
  iexists _; iexact Ho

/-- Sending a chunk to a neighbour: the share of the source comes back with the departure, the chunk arrives. -/
theorem step_send {Q : PUnit.{1} → sProp 𝕄} {sp₁ sp₂ : Space} {s : Shape} {e : EltTy} {src : Memref sig .tc sp₁ s e} {d' : Dev nD} {dst : Memref sig .tc sp₂ s e}
    {sS sR : DmaSem sig} {hsc : dst.view.ref.isScScratch = false} {hsrc : src.view.WordExact} {hdst : dst.view.WordExact}
    {hsem : DmaTarget.Typed sp₁ (.dma sR) (.remote (Dev.tc d' : Thread nD τ) dst (.dma sS) hsc)} {k : Tail F}
    (j j' : Fin 4) (c : Fin 16) (hS : sS = chanSem j c) (hR : sR = chanSem j' c) (hN : dst.view.dmaCredit = N)
    {q : PosShare TreeShare} {X : s.Idx → Elt F e} {O₀ : CellTallies nD τ sig Unit} (O : CellTallies nD τ sig Unit)
    (hO : O₀ = O + tallyAt (kcell (d', some (j', c))) () N)
    (hp : has d src q X ⊢ pay m d (some (j, c)) false) (hp' : has d' dst fullShare X ⊢ pay m d' (some (j', c)) false) :
    iprop(records m K ∗ has d src q X ∗ room d' dst ∗ dutyTok ER (kcell (d, some (j, c))) 0 false ∗ dutyTok ER (kcell (d', some (j', c))) 0 false ∗ owing d O₀)
      ⊢ iprop((iprop(coming d (some (j, c)) N ∗ owing d O) -∗ run d k Q)
        -∗ run d (Prog.op (.enqueueDma src (.remote (Dev.tc d' : Thread nD τ) dst (.dma sS) hsc) (.dma sR) hsrc hdst hsem) fun _ => k) Q) := by
  subst hS hR
  unfold room has owns
  iintro ⟨#HR, ⟨%fs, %hfs, Hs⟩, ⟨%Y, %fd, %hfd, Hd⟩, Ht, Ht', ⟨%W, Ho⟩⟩ Hk
  iapply (Rounds.wp_send_pointsTo 𝒱₀ ER (sched m) (d : Thread nD τ) none (c' := (Dev.tc d' : Thread nD τ)) (κ₁ := K (d, some (j, c))) (κ₂ := K (d', some (j', c)))
    (r₁ := 0) (r₂ := 0) (d₁ := false) (d₂ := false) (fd := fd) (fs := fs) (q := q) (sS := .dma (chanSem j c)) (sem := .dma (chanSem j' c))
    (by show false ∈ (sched m).duties (kcell (d, some (j, c))) 0; rw [sched_duties]; exact Finset.mem_singleton_self _)
    (by show false ∈ (sched m).duties (kcell (d', some (j', c))) 0; rw [sched_duties]; exact Finset.mem_singleton_self _)
    () () N hN (sched_amount m (d, some (j, c)) 0 false) (sched_amount m (d', some (j', c)) 0 false) O hO (W := W)
    (by
      rw [show (sched m).payload ((d : Thread nD τ), SemLoc.dma (chanSem j c)) 0 false = _ from sched_payload m (d, some (j, c)) 0 false]
      refine (show ((src.view.loc (d : Thread nD τ)) ↦[src.view.set]{q} fs : sProp 𝕄) ⊢ has d src q X from ?_).trans hp
      unfold has owns
      iintro H; iexists fs
      isplitr; · ipureintro; exact hfs
      iexact H)
    (by
      rw [show (sched m).payload ((Dev.tc d' : Thread nD τ), SemLoc.dma (chanSem j' c)) 0 false = _ from sched_payload m (d', some (j', c)) 0 false]
      refine (show ((dst.view.loc (d' : Thread nD τ)) ↦[dst.view.set]{fullShare} (dst.view.write (Elt F) fd (src.view.read (Elt F) fs) Finset.univ) : sProp 𝕄) ⊢ has d' dst fullShare X from ?_).trans hp'
      unfold has owns
      iintro H; iexists _
      isplitr
      rotate_left
      · iexact H
      · ipureintro; rw [View.read_write_univ]; exact hfs)) $$ [Hs Hd Ho Ht Ht']
  · isplitr; · iapply (records_inv m K (d, some (j, c))); iexact HR
    isplitr; · iapply (records_inv m K (d', some (j', c))); iexact HR
    isplitl [Hs]; · iexact Hs
    isplitl [Hd]; · iexact Hd
    isplitl [Ho]; · iexact Ho
    isplitl [Ht]; · iexact Ht
    isplitr; · iapply (records_reached m K (d, some (j, c))); iexact HR
    isplitl [Ht']; · iexact Ht'
    iapply (records_reached m K (d', some (j', c))); iexact HR
  iintro ⟨Hc, Ho⟩
  iapply Hk
  isplitl [Hc]; · iexact Hc
  iexists _; iexact Ho

theorem rsV_credit (c : Fin 16) : (rsV c).view.dmaCredit = N := rfl
theorem agV_credit (c : Fin 16) : (agV c).view.dmaCredit = N := rfl
theorem othV_credit (s : Fin 4) : (othV d s).view.dmaCredit = N := rfl
theorem redV_credit (s : Fin 4) : (redV s).view.dmaCredit = N := rfl

/-! ## The exchange of partial products -/

/-- What sending chunk `c`'s partial product needs beside the product: its two duties and the partner's buffer. -/
def RsTodo (c : Fin 16) : sProp 𝕄 :=
  iprop(dutyTok ER (kcell (d, some (0, c))) 0 false ∗ dutyTok ER (kcell (ynbr d, some (1, c))) 0 false ∗ room (ynbr d) (rsV c) ∗ before d (some (0, c)))
/-- Chunk `c`'s partial product is on its way. -/
def RsFly (c : Fin 16) : sProp 𝕄 := iprop(coming d (some (0, c)) N ∗ before d (some (0, c)))
/-- Chunk `c`'s partial product has left. -/
def RsDone (c : Fin 16) : sProp 𝕄 := past d (some (0, c))
/-- The partner's product of chunk `c` is awaited. -/
def RecvTodo (c : Fin 16) : sProp 𝕄 := iprop(coming d (some (1, c)) N ∗ before d (some (1, c)))
/-- The partner's product of chunk `c` is here. -/
def RecvDone (c : Fin 16) : sProp 𝕄 := iprop(past d (some (1, c)) ∗ has d (rsV c) fullShare (flat (sent m (ynbr d) c)))

theorem step_rsStart {Q : PUnit.{1} → sProp 𝕄} (c : Fin 16) (n' : ℕ) {k : Tail F} :
    iprop(records m K ∗ has d (othV d (slot4 c)) fullShare (flat (sent m d c)) ∗ RsTodo d c ∗ owing d (Due d c.val n'))
      ⊢ iprop((iprop(RsFly d c ∗ owing d (Due d (c.val + 1) n')) -∗ run d k Q) -∗ run d (rsStart d c k) Q) := by
  unfold RsTodo RsFly rsStart
  iintro ⟨#HR, Hs, ⟨Ht, Ht', Hd, Hb⟩, Ho⟩ Hk
  iapply (step_send m K d 0 1 c rfl rfl (rsV_credit c) (Due d (c.val + 1) n') (Due_rs d c n')
    (has_room d (othV d (slot4 c)) (flat (sent m d c)))
    (show has (ynbr d) (rsV c) fullShare (flat (sent m d c)) ⊢ has (ynbr d) (rsV c) fullShare (flat (sent m (ynbr (ynbr d)) c)) from by
      rw [ynbr_ynbr])) $$ [Hs Ht Ht' Hd Ho]
  · isplitr; · iexact HR
    isplitl [Hs]; · iexact Hs
    isplitl [Hd]; · iexact Hd
    isplitl [Ht]; · iexact Ht
    isplitl [Ht']; · iexact Ht'
    iexact Ho
  iintro ⟨Hc, Ho⟩
  iapply Hk
  isplitr [Ho]
  · isplitl [Hc]; · iexact Hc
    iexact Hb
  iexact Ho

theorem step_rsLeft {Q : PUnit.{1} → sProp 𝕄} (c : Fin 16) {n n' : ℕ} {k : Tail F} :
    iprop(records m K ∗ RsFly d c ∗ owing d (Due d n n'))
      ⊢ iprop((iprop(RsDone d c ∗ room d (othV d (slot4 c)) ∗ owing d (Due d n n')) -∗ run d k Q) -∗ run d (rsLeft d c k) Q) := by
  unfold RsDone RsFly rsLeft
  iintro ⟨#HR, ⟨Hc, Hb⟩, Ho⟩ Hk
  iapply (step_chan m K d 0 c rfl (othV_credit d (slot4 c)) (Nat.zero_le _) (Nat.zero_le _)) $$ [Hc Hb Ho]
  · isplitr; · iexact HR
    isplitl [Hc]; · iexact Hc
    isplitl [Hb]; · iexact Hb
    iexact Ho
  iintro H
  iapply Hk
  iexact H

theorem step_rsTake {Q : PUnit.{1} → sProp 𝕄} (c : Fin 16) {n : ℕ} (hn : c.val < n) {k : Tail F} :
    iprop(records m K ∗ RecvTodo d c ∗ owing d (Due d n c.val))
      ⊢ iprop((iprop(RecvDone m d c ∗ owing d (Due d n c.val)) -∗ run d k Q) -∗ run d (rsTake d c k) Q) := by
  unfold RecvDone RecvTodo rsTake
  iintro ⟨#HR, ⟨Hc, Hb⟩, Ho⟩ Hk
  iapply (step_chan m K d 1 c rfl (rsV_credit c) (show 2 * c.val + 2 ≤ 2 * n + 1 by omega) (show 2 * c.val + 2 ≤ 2 * c.val + 2 by omega)) $$ [Hc Hb Ho]
  · isplitr; · iexact HR
    isplitl [Hc]; · iexact Hc
    isplitl [Hb]; · iexact Hb
    iexact Ho
  iintro ⟨H, Hp, Ho⟩
  iapply Hk
  isplitr [Ho]
  · isplitl [H]; · iexact H
    iapply (Entails.of_eq (show pay m d (some (1, c)) false = has d (rsV c) fullShare (flat (sent m (ynbr d) c)) from rfl)); iexact Hp
  iexact Ho

/-! ## Reducing a chunk and handing it on -/

theorem step_addHalves {Q : PUnit.{1} → sProp 𝕄} (c : Fin 16) {k : Tail F} :
    iprop(has d (pM.slice (ownR d (slot4 c)) (fun _ => rfl)) fullShare (kept m d c) ∗ RecvDone m d c ∗ room d (redV (slot4 c)))
      ⊢ iprop((iprop(has d (pM.slice (ownR d (slot4 c)) (fun _ => rfl)) fullShare (kept m d c) ∗ RecvDone m d c ∗ has d (redV (slot4 c)) fullShare (redFlat m d c))
          -∗ run d k Q) -∗ run d (addHalves d c k) Q) := by
  unfold addHalves RecvDone
  iintro ⟨Hp, ⟨Hat, Hr⟩, Hd⟩ Hk
  ihave Hr' := (has_squeeze d (rsM.slice (recvR c) (fun _ => rfl)) squeezes_S1x1024x256_S1024x256 fullShare (sent m (ynbr d) c)).2 $$ Hr
  ihave Hd' := (room_squeeze d (redM.slice (redR (slot4 c)) (fun _ => rfl)) squeezes_S1x1024x256_S1024x256).2 $$ Hd
  iapply (wp_load_part d (fun _ => rfl)) $$ Hp
  iintro Hp
  iapply (wp_load_part d (fun _ => rfl)) $$ Hr'
  iintro Hr
  iapply (wp_load_room d (fun _ => rfl)) $$ Hd'
  iintro Hd
  iapply (wp_store_part d (fun _ => rfl)) $$ Hd
  iintro Hd
  iapply Hk
  isplitl [Hp]; · iexact Hp
  isplitr [Hd]
  · isplitl [Hat]; · iexact Hat
    iapply (has_squeeze d (rsM.slice (recvR c) (fun _ => rfl)) squeezes_S1x1024x256_S1024x256 fullShare (sent m (ynbr d) c)).1
    iexact Hr
  iapply (has_squeeze d (redM.slice (redR (slot4 c)) (fun _ => rfl)) squeezes_S1x1024x256_S1024x256 fullShare (red m d c)).1
  iexact Hd

/-- A slot for reduced chunks at rest. -/
def RedFree (s : Fin 4) : sProp 𝕄 := iprop(room d (redV s) ∗ idle d (outSem s))

/-- What handing on chunk `c` needs beside the chunk: its piece of the result, the two duties and the neighbour's buffer. -/
def OutTodo (c : Fin 16) : sProp 𝕄 :=
  iprop(room d (outV d c) ∗ dutyTok ER (kcell (d, some (2, c))) 0 false ∗ dutyTok ER (kcell (xnbr d, some (3, c))) 0 false
    ∗ room (xnbr d) (agV c) ∗ before d (some (2, c)))
/-- Chunk `c` is on its way into the result and to the neighbour. -/
def OutFly (c : Fin 16) : sProp 𝕄 :=
  iprop(flight d (outSem (slot4 c)) (outV d c).view.dmaCredit
      iprop(has d (outV d c) fullShare (redFlat m d c) ∗ has d (redV (slot4 c)) fullShare.left (redFlat m d c))
    ∗ coming d (some (2, c)) N ∗ before d (some (2, c)))
/-- Chunk `c` is in the result and has left for the neighbour. -/
def OutDone (c : Fin 16) : sProp 𝕄 := iprop(has d (outV d c) fullShare (redFlat m d c) ∗ past d (some (2, c)))

theorem step_outStart {Q : PUnit.{1} → sProp 𝕄} (c : Fin 16) {n : ℕ} {k : Tail F} :
    iprop(records m K ∗ has d (redV (slot4 c)) fullShare (redFlat m d c) ∗ idle d (outSem (slot4 c)) ∗ OutTodo d c ∗ owing d (Due d n c.val))
      ⊢ iprop((iprop(OutFly m d c ∗ owing d (Due d n (c.val + 1))) -∗ run d k Q) -∗ run d (outStart d c (agStart d c k)) Q) := by
  unfold OutTodo OutFly outStart agStart
  iintro ⟨#HR, Hs, Hi, ⟨Hout, Ht, Ht', Hd, Hb⟩, Ho⟩ Hk
  ihave Hs' := (owns_halves (d : Thread nD τ) (redV (slot4 c)) fullShare (redFlat m d c)).1 $$ Hs
  icases Hs' with ⟨Hs, Hs'⟩
  iapply (wp_copy d (View.dmaCredit_pos _ (by decide))) $$ [Hs Hout Hi]
  · isplitl [Hs]; · iexact Hs
    isplitl [Hout]; · iexact Hout
    iexact Hi
  iintro Hf
  iapply (step_send m K d 2 3 c rfl rfl (agV_credit c) (Due d n (c.val + 1)) (Due_ag d n c)
    (show has d (redV (slot4 c)) fullShare.right (redFlat m d c) ⊢ has d (redV (slot4 c)) fullShare.right (redFlat m d c) from .rfl)
    (show has (xnbr d) (agV c) fullShare (redFlat m d c) ⊢ has (xnbr d) (agV c) fullShare (redFlat m (xnbr (xnbr d)) c) from by
      rw [xnbr_xnbr])) $$ [Hs' Ht Ht' Hd Ho]
  · isplitr; · iexact HR
    isplitl [Hs']; · iexact Hs'
    isplitl [Hd]; · iexact Hd
    isplitl [Ht]; · iexact Ht
    isplitl [Ht']; · iexact Ht'
    iexact Ho
  iintro ⟨Hc, Ho⟩
  iapply Hk
  isplitr [Ho]
  · isplitl [Hf]; · iexact Hf
    isplitl [Hc]; · iexact Hc
    iexact Hb
  iexact Ho

theorem step_outLeft {Q : PUnit.{1} → sProp 𝕄} (c : Fin 16) {n n' : ℕ} {k : Tail F} :
    iprop(records m K ∗ OutFly m d c ∗ owing d (Due d n n'))
      ⊢ iprop((iprop(OutDone m d c ∗ RedFree d (slot4 c) ∗ owing d (Due d n n')) -∗ run d k Q) -∗ run d (outLeft d c (agLeft c k)) Q) := by
  unfold OutDone RedFree OutFly outLeft agLeft
  iintro ⟨#HR, ⟨Hf, Hc, Hb⟩, Ho⟩ Hk
  iapply (wp_landed d rfl) $$ [Hf Ho]
  · isplitl [Hf]; · iexact Hf
    isplitl [Ho]; · iexact Ho
    iapply (mayWait_local d (outSem (slot4 c)) (outSem_lt _) n n')
    iapply (records_lev m K); iexact HR
  iintro ⟨⟨Hout, Hs⟩, Hi, Ho⟩
  iapply (step_chan m K d 2 c rfl (redV_credit (slot4 c)) (Nat.zero_le _) (Nat.zero_le _)) $$ [Hc Hb Ho]
  · isplitr; · iexact HR
    isplitl [Hc]; · iexact Hc
    isplitl [Hb]; · iexact Hb
    iexact Ho
  iintro ⟨Hat, Hs', Ho⟩
  iapply Hk
  isplitl [Hout Hat]
  · isplitl [Hout]; · iexact Hout
    iexact Hat
  isplitr [Ho]
  · isplitr [Hi]
    · iapply (has_room d (redV (slot4 c)) (redFlat m d c))
      iapply (owns_halves (d : Thread nD τ) (redV (slot4 c)) fullShare (redFlat m d c)).2
      isplitl [Hs]; · iexact Hs
      iapply (Entails.of_eq (show pay m d (some (2, c)) false = has d (redV (slot4 c)) fullShare.right (redFlat m d c) from rfl)); iexact Hs'
    iexact Hi
  iexact Ho

/-! ## Receiving the other row's chunks -/

/-- The other row's chunk `c` is awaited; its piece of the result is ready. -/
def AgTodo (c : Fin 16) : sProp 𝕄 := iprop(coming d (some (3, c)) N ∗ before d (some (3, c)) ∗ room d (out2V d c) ∗ idle d (out2Sem c))
/-- The other row's chunk `c` is on its way into the result. -/
def AgFly (c : Fin 16) : sProp 𝕄 :=
  iprop(flight d (out2Sem c) (out2V d c).view.dmaCredit
      iprop(has d (out2V d c) fullShare (redFlat m (xnbr d) c) ∗ has d (agV c) fullShare (redFlat m (xnbr d) c))
    ∗ past d (some (3, c)))
/-- The other row's chunk `c` is in the result. -/
def AgDone (c : Fin 16) : sProp 𝕄 :=
  iprop(has d (out2V d c) fullShare (redFlat m (xnbr d) c) ∗ room d (agV c) ∗ past d (some (3, c)) ∗ idle d (out2Sem c))

theorem step_gather {Q : PUnit.{1} → sProp 𝕄} (c : Fin 16) {n n' : ℕ} (hn : c.val + 1 ≤ n) (hn' : c.val + 1 ≤ n') {k : Tail F} :
    iprop(records m K ∗ AgTodo d c ∗ owing d (Due d n n'))
      ⊢ iprop((iprop(AgFly m d c ∗ owing d (Due d n n')) -∗ run d k Q) -∗ run d (gather d c k) Q) := by
  unfold AgTodo AgFly gather agTake out2Start
  iintro ⟨#HR, ⟨Hc, Hb, Hout, Hi⟩, Ho⟩ Hk
  iapply (step_chan m K d 3 c rfl (agV_credit c) (show 2 * c.val + 3 ≤ 2 * n + 1 by omega) (show 2 * c.val + 3 ≤ 2 * n' + 2 by omega)) $$ [Hc Hb Ho]
  · isplitr; · iexact HR
    isplitl [Hc]; · iexact Hc
    isplitl [Hb]; · iexact Hb
    iexact Ho
  iintro ⟨Hat, Hp, Ho⟩
  ihave Hs := (Entails.of_eq (show pay m d (some (3, c)) false = has d (agV c) fullShare (redFlat m (xnbr d) c) from rfl)) $$ Hp
  iapply (wp_copy d (src := agV c) (q := fullShare) (X := redFlat m (xnbr d) c) (View.dmaCredit_pos _ (by decide))) $$ [Hs Hout Hi]
  · isplitl [Hs]; · iexact Hs
    isplitl [Hout]; · iexact Hout
    iexact Hi
  iintro Hf
  iapply Hk
  isplitr [Ho]
  · isplitl [Hf]; · iexact Hf
    iexact Hat
  iexact Ho

theorem step_out2Left {Q : PUnit.{1} → sProp 𝕄} (c : Fin 16) {n n' : ℕ} {k : Tail F} :
    iprop(records m K ∗ AgFly m d c ∗ owing d (Due d n n'))
      ⊢ iprop((iprop(AgDone m d c ∗ owing d (Due d n n')) -∗ run d k Q) -∗ run d (out2Left d c k) Q) := by
  unfold AgDone AgFly out2Left
  iintro ⟨#HR, ⟨Hf, Hat⟩, Ho⟩ Hk
  iapply (wp_landed d rfl) $$ [Hf Ho]
  · isplitl [Hf]; · iexact Hf
    isplitl [Ho]; · iexact Ho
    iapply (mayWait_local d (out2Sem c) (out2Sem_lt _) n n')
    iapply (records_lev m K); iexact HR
  iintro ⟨⟨Hout, Hs⟩, Hi, Ho⟩
  iapply Hk
  isplitr [Ho]
  · isplitl [Hout]; · iexact Hout
    isplitl [Hs]; · iapply (has_room d (agV c) (redFlat m (xnbr d) c)); iexact Hs
    isplitl [Hat]; · iexact Hat
    iexact Hi
  iexact Ho

/-! ## Meeting the neighbours -/

/-- What device `d` owes at the start: every chunk to its neighbours, and a unit to each one's barrier. -/
def Owed (d : Dev nD) : CellTallies nD τ sig Unit :=
  Due d 0 0 + tallyAt (kcell (ynbr d, none)) () 1 + tallyAt (kcell (xnbr d, none)) () 1

theorem step_announce {Q : PUnit.{1} → sProp 𝕄} {k : Tail F} :
    iprop(records m K ∗ (bigSep Finset.univ fun c : Fin 16 => room d (rsV c)) ∗ (bigSep Finset.univ fun c : Fin 16 => room d (agV c))
        ∗ dutyTok ER (kcell (ynbr d, none)) 0 false ∗ dutyTok ER (kcell (xnbr d, none)) 0 true ∗ owing d (Owed d))
      ⊢ iprop((owing d (Due d 0 0) -∗ run d k Q) -∗ run d (announce d k) Q) := by
  unfold announce Owed
  simp only [semSignalWord, Prog.lift, Prog.bind_op, Prog.bind_ret, Prog.pure_eq_ret]
  iintro ⟨#HR, Hrs, Hag, Hy, Hx, ⟨%W, Ho⟩⟩ Hk
  iapply (Rounds.wp_signal 𝒱₀ ER (sched m) (d : Thread nD τ) none (dst := (xnbr d : Thread nD τ)) (sem := barSem) (κ := K (xnbr d, none)) (r := 0) (d := true)
      (by show true ∈ (sched m).duties (kcell (xnbr d, none)) 0; rw [sched_duties]; exact Finset.mem_univ _)
      (sched_amount m (xnbr d, none) 0 true) () (Due d 0 0 + tallyAt (kcell (ynbr d, none)) () 1) rfl) $$ [Hag Hx Ho]
  · isplitr; · iapply (records_inv m K (xnbr d, none)); iexact HR
    isplitl [Ho]; · iexact Ho
    isplitl [Hx]; · iexact Hx
    isplitl [Hag]
    · iapply (Entails.of_eq (show (sched m).payload ((xnbr d : Thread nD τ), SemLoc.reg barSem) 0 true
        = (bigSep Finset.univ fun c : Fin 16 => room (xnbr (xnbr d)) (agV c) : sProp 𝕄) from sched_payload m (xnbr d, none) 0 true).symm)
      rw [xnbr_xnbr]; iexact Hag
    · iapply (records_reached m K (xnbr d, none)); iexact HR
  iintro Ho
  iapply (Rounds.wp_signal 𝒱₀ ER (sched m) (d : Thread nD τ) none (dst := (ynbr d : Thread nD τ)) (sem := barSem) (κ := K (ynbr d, none)) (r := 0) (d := false)
      (by show false ∈ (sched m).duties (kcell (ynbr d, none)) 0; rw [sched_duties]; exact Finset.mem_univ _)
      (sched_amount m (ynbr d, none) 0 false) () (Due d 0 0) rfl) $$ [Hrs Hy Ho]
  · isplitr; · iapply (records_inv m K (ynbr d, none)); iexact HR
    isplitl [Ho]; · iexact Ho
    isplitl [Hy]; · iexact Hy
    isplitl [Hrs]
    · iapply (Entails.of_eq (show (sched m).payload ((ynbr d : Thread nD τ), SemLoc.reg barSem) 0 false
        = (bigSep Finset.univ fun c : Fin 16 => room (ynbr (ynbr d)) (rsV c) : sProp 𝕄) from sched_payload m (ynbr d, none) 0 false).symm)
      rw [ynbr_ynbr]; iexact Hrs
    · iapply (records_reached m K (ynbr d, none)); iexact HR
  iintro Ho
  iapply Hk
  iexists _; iexact Ho

theorem step_meet {Q : PUnit.{1} → sProp 𝕄} {k : Tail F} {n n' : ℕ} :
    iprop(records m K ∗ coming d none 2 ∗ before d none ∗ owing d (Due d n n'))
      ⊢ iprop((iprop(past d none ∗ (bigSep Finset.univ fun c : Fin 16 => room (ynbr d) (rsV c)) ∗ (bigSep Finset.univ fun c : Fin 16 => room (xnbr d) (agV c))
          ∗ owing d (Due d n n')) -∗ run d k Q) -∗ run d (meet k) Q) := by
  unfold meet
  simp only [semWaitWord, Prog.lift, Prog.bind_op, Prog.bind_ret, Prog.pure_eq_ret]
  iintro ⟨#HR, Hc, Hat, ⟨%W, Ho⟩⟩ Hk
  iapply (Rounds.wp_wait_rest_token 𝒱₀ ER (sched m) (d : Thread nD τ) none (κ := K (d, none))
      (wpE_semWait_eq 𝒱₀ (d : Thread nD τ) none Set.univ) (Set.mem_univ _) () (O := Due d n n') (W := W) (R := 0) (m := 0) (T := ∅)
      (by rw [Nat.zero_add]; exact (sched_expect_bar m d).symm)) $$ [Hc Ho Hat]
  · isplitr; · iapply (records_inv m K (d, none)); iexact HR
    isplitl [Hc]; · iexact Hc
    isplitl [Ho]; · iexact Ho
    isplitr
    · iapply (mayWait d (.reg barSem) (show lvOf (decode (semOf none)) ≤ 2 * n + 1 by rw [decode_semOf]; show 1 ≤ 2 * n + 1; omega)
        (show lvOf (decode (semOf none)) ≤ 2 * n' + 2 by rw [decode_semOf]; show 1 ≤ 2 * n' + 2; omega))
      iapply (records_lev m K); iexact HR
    iexact Hat
  iintro ⟨Ho, Hat, -, Hpay⟩
  ihave Hp := (show (bigSep ((sched m).duties ((d : Thread nD τ), SemLoc.reg barSem) 0 \ ∅) fun b => (sched m).payload ((d : Thread nD τ), SemLoc.reg barSem) 0 b : sProp 𝕄)
    ⊢ iprop((bigSep Finset.univ fun c : Fin 16 => room (ynbr d) (rsV c)) ∗ (bigSep Finset.univ fun c : Fin 16 => room (xnbr d) (agV c)))
    from Entails.of_eq (rest_bar m d)) $$ Hpay
  icases Hp with ⟨Hy, Hx⟩
  iapply Hk
  isplitl [Hat]; · iexact Hat
  isplitl [Hy]; · iexact Hy
  isplitl [Hx]; · iexact Hx
  iexists _; iexact Ho

end Cert.Overlap

end
-- ==== Proof.Loop.lean ====
module

public import proofs.«01_k».proof.Proof.Steps

/-! # The loop over the chunks

Each resource that goes from chunk to chunk is a family over the sixteen chunks, or over the slots of a ring, with
counters of how far each stage has come. A chunk of the loop raises every counter by one. -/

@[expose] public section

set_option maxRecDepth 16384

noncomputable section

namespace Cert.Overlap

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

/-! ## Families -/

/-- A member of a family exchanged for another. -/
theorem exchange {I : Type} [Fintype I] [DecidableEq I] (i : I) {A B : I → sProp 𝕄} (h : ∀ j, j ≠ i → A j = B j) :
    (bigSep Finset.univ A : sProp 𝕄) ⊢ iprop(A i ∗ (B i -∗ bigSep Finset.univ B)) := by
  have hB : (bigSep Finset.univ B : sProp 𝕄) = iprop(B i ∗ bigSep (Finset.univ.erase i) A) := by
    rw [bigSep_erase (Finset.mem_univ i)]
    refine congrArg (fun X : sProp 𝕄 => iprop(B i ∗ X)) ?_
    exact bigSep_congr fun j hj => (h j (Finset.ne_of_mem_erase hj)).symm
  rw [hB, show (bigSep Finset.univ A : sProp 𝕄) = iprop(A i ∗ bigSep (Finset.univ.erase i) A) from bigSep_erase (Finset.mem_univ i)]
  iintro ⟨Hi, Hr⟩
  isplitl [Hi]; · iexact Hi
  iintro Hi
  isplitl [Hi]; · iexact Hi
  iexact Hr

/-- The family whose members below `a` are done, from `a` to `b` under way, from `b` on yet to start. -/
def fam (a b : ℕ) (D G T : Fin 16 → sProp 𝕄) : sProp 𝕄 :=
  bigSep Finset.univ fun c : Fin 16 => if c.val < a then D c else if c.val < b then G c else T c

/-- The next chunk starts. -/
theorem fam_start (c : Fin 16) {a : ℕ} (ha : a ≤ c.val) (D G T : Fin 16 → sProp 𝕄) :
    fam a c.val D G T ⊢ iprop(T c ∗ (G c -∗ fam a (c.val + 1) D G T)) := by
  unfold fam
  refine (exchange c (B := fun x : Fin 16 => if x.val < a then D x else if x.val < c.val + 1 then G x else T x) fun j hj => ?_).trans ?_
  · have : j.val ≠ c.val := fun e => hj (Fin.ext e)
    by_cases h1 : j.val < a
    · rw [if_pos h1, if_pos h1]
    · rw [if_neg h1, if_neg h1]
      by_cases h2 : j.val < c.val
      · rw [if_pos h2, if_pos (by omega)]
      · rw [if_neg h2, if_neg (by omega)]
  · rw [if_neg (show ¬ c.val < a by omega), if_neg (show ¬ c.val < c.val by omega), if_neg (show ¬ c.val < a by omega), if_pos (show c.val < c.val + 1 by omega)]

/-- The oldest chunk under way is done. -/
theorem fam_end (c : Fin 16) {b : ℕ} (hb : c.val < b) (D G T : Fin 16 → sProp 𝕄) :
    fam c.val b D G T ⊢ iprop(G c ∗ (D c -∗ fam (c.val + 1) b D G T)) := by
  unfold fam
  refine (exchange c (B := fun x : Fin 16 => if x.val < c.val + 1 then D x else if x.val < b then G x else T x) fun j hj => ?_).trans ?_
  · have : j.val ≠ c.val := fun e => hj (Fin.ext e)
    by_cases h1 : j.val < c.val
    · rw [if_pos h1, if_pos (by omega)]
    · have h3 : ¬ j.val < c.val + 1 := by omega
      rw [if_neg h1, if_neg h3]
  · rw [if_neg (show ¬ c.val < c.val by omega), if_pos hb, if_pos (show c.val < c.val + 1 by omega)]

/-- Nothing has started. -/
theorem fam_none (D G T : Fin 16 → sProp 𝕄) : fam 0 0 D G T = bigSep Finset.univ T :=
  bigSep_congr fun c _ => by rw [if_neg (by omega), if_neg (by omega)]
/-- Everything is done. -/
theorem fam_all (D G T : Fin 16 → sProp 𝕄) {b : ℕ} : fam 16 b D G T = bigSep Finset.univ D :=
  bigSep_congr fun c _ => by rw [if_pos c.isLt]
/-- Everything has started. -/
theorem fam_started (D G T : Fin 16 → sProp 𝕄) : fam 0 16 D G T = bigSep Finset.univ G :=
  bigSep_congr fun c _ => by rw [if_neg (by omega), if_pos c.isLt]

/-- The slots of a ring of four from `b` on. -/
def slotsFrom (b : ℕ) (A : Fin 4 → sProp 𝕄) : sProp 𝕄 := bigSep Finset.univ fun s : Fin 4 => if b ≤ s.val then A s else iprop(emp)
/-- The slots of a ring of four below `b`. -/
def slotsBelow (b : ℕ) (A : Fin 4 → sProp 𝕄) : sProp 𝕄 := bigSep Finset.univ fun s : Fin 4 => if s.val < b then A s else iprop(emp)

theorem slots_take (s : Fin 4) (A : Fin 4 → sProp 𝕄) : slotsFrom s.val A ⊢ iprop(A s ∗ slotsFrom (s.val + 1) A) := by
  unfold slotsFrom
  refine (exchange s (B := fun x : Fin 4 => if s.val + 1 ≤ x.val then A x else iprop(emp)) fun j hj => ?_).trans ?_
  · have : j.val ≠ s.val := fun e => hj (Fin.ext e)
    by_cases h1 : s.val ≤ j.val
    · rw [if_pos h1, if_pos (by omega)]
    · rw [if_neg h1, if_neg (by omega)]
  · rw [if_pos (le_refl s.val), if_neg (show ¬ s.val + 1 ≤ s.val by omega)]
    iintro ⟨H, Hk⟩
    isplitl [H]; · iexact H
    iapply Hk; iempintro

theorem slots_put (s : Fin 4) (A : Fin 4 → sProp 𝕄) : iprop(A s ∗ slotsBelow s.val A) ⊢ slotsBelow (s.val + 1) A := by
  unfold slotsBelow
  iintro ⟨H, Hr⟩
  ihave Hx := (exchange s (A := fun x : Fin 4 => if x.val < s.val then A x else iprop(emp)) (B := fun x : Fin 4 => if x.val < s.val + 1 then A x else iprop(emp)) fun j hj => by
    have : j.val ≠ s.val := fun e => hj (Fin.ext e)
    by_cases h1 : j.val < s.val
    · rw [if_pos h1, if_pos (by omega)]
    · rw [if_neg h1, if_neg (by omega)]) $$ Hr
  icases Hx with ⟨-, Hk⟩
  iapply Hk
  rw [if_pos (Nat.lt_succ_self s.val)]
  iexact H

theorem slotsFrom_zero (A : Fin 4 → sProp 𝕄) : slotsFrom 0 A = bigSep Finset.univ A :=
  bigSep_congr fun s _ => if_pos (Nat.zero_le _)
theorem slotsFrom_four (A : Fin 4 → sProp 𝕄) {b b' : ℕ} (h : 4 ≤ b) (h' : 4 ≤ b') : slotsFrom b A = slotsFrom b' A :=
  bigSep_congr fun s _ => by rw [if_neg (by omega), if_neg (by omega)]
theorem slotsBelow_four (A : Fin 4 → sProp 𝕄) : slotsBelow 4 A = bigSep Finset.univ A :=
  bigSep_congr fun s _ => if_pos s.isLt
theorem slotsBelow_zero (A : Fin 4 → sProp 𝕄) : (iprop(emp) : sProp 𝕄) ⊢ slotsBelow 0 A := by
  unfold slotsBelow
  rw [show (fun s : Fin 4 => if s.val < 0 then A s else iprop(emp)) = fun _ => (iprop(emp) : sProp 𝕄) from funext fun s => if_neg (Nat.not_lt_zero _)]
  exact Entails.of_eq (bigSep_emp_const _).symm

variable (m : (ℓ : Loc nD τ sig) → Buf (Elt F) ℓ) (K : Dev nD × Ring → ℕ) (d : Dev nD)

/-- Running a step for each chunk in a range. -/
theorem run_forFrom {Q : PUnit.{1} → sProp 𝕄} (f : Fin 16 → Tail F → Tail F) (S : ℕ → sProp 𝕄) (k : Tail F) (j : ℕ) :
    ∀ a : ℕ, a + j ≤ 16 →
      (∀ c : Fin 16, a ≤ c.val → c.val < a + j → ∀ k : Tail F, iprop(records m K ∗ S c.val) ⊢ iprop((S (c.val + 1) -∗ run d k Q) -∗ run d (f c k) Q)) →
      iprop(records m K ∗ S a) ⊢ iprop((S (a + j) -∗ run d k Q) -∗ run d (forFrom f a k j) Q) := by
  induction j with
  | zero =>
    intro a _ _
    iintro ⟨-, H⟩ Hk
    iapply Hk; iexact H
  | succ j ih =>
    intro a ha hf
    have hlt : a < 16 := by omega
    rw [show forFrom f a k (j + 1) = f ⟨a, hlt⟩ (forFrom f (a + 1) k j) from dif_pos hlt, show a + (j + 1) = a + 1 + j by omega]
    iintro ⟨#HR, H⟩ Hk
    iapply (hf ⟨a, hlt⟩ (le_refl a) (show a < a + (j + 1) by omega) (forFrom f (a + 1) k j)) $$ [H]
    · isplitr; · iexact HR
      iexact H
    iintro H
    iapply (ih (a + 1) (by omega) fun c h₁ h₂ => hf c (by omega) (by omega)) $$ [H]
    · isplitr; · iexact HR
      iexact H
    iexact Hk

/-! ## The chunks of dy -/

/-- Chunk `n` of dy on its way, or, past the last, its slot at rest. -/
def DyX (n : ℕ) : sProp 𝕄 := if h : n < 16 then DyFly m d ⟨n, h⟩ else DyFree m d ⟨n % 3, Nat.mod_lt _ (by decide)⟩
/-- The three slots when chunk `n` is next. -/
def DyS (n : ℕ) : sProp 𝕄 := iprop(DyX m d n ∗ DyX m d (n + 1) ∗ DyFree m d ⟨(n + 2) % 3, Nat.mod_lt _ (by decide)⟩)

theorem step_fetch {Q : PUnit.{1} → sProp 𝕄} (n : Fin 16) {k : Vec F S1x2048x256 .f32 → Tail F} {o o' : ℕ} :
    iprop(records m K ∗ DyS m d n.val ∗ owing d (Due d o o'))
      ⊢ iprop((iprop(DyS m d (n.val + 1) ∗ owing d (Due d o o')) -∗ run d (k (dyTile m d n)) Q)
        -∗ run d (dyTake d n fun b => ahead 2 n (dyStart d) (k b)) Q) := by
  unfold DyS
  rw [show DyX m d n.val = DyFly m d n from dif_pos n.isLt]
  iintro ⟨#HR, ⟨H, H1, H2⟩, Ho⟩ Hk
  iapply (step_dyTake m K d n) $$ [H Ho]
  · isplitr; · iexact HR
    isplitl [H]; · iexact H
    iexact Ho
  iintro ⟨H, Ho⟩
  unfold ahead
  have e3 : (⟨(n.val + 1 + 2) % 3, Nat.mod_lt _ (by decide)⟩ : Fin 3) = slot3 n := Fin.ext (show (n.val + 1 + 2) % 3 = n.val % 3 by omega)
  rw [e3]
  by_cases h : n.val + 2 < 16
  · rw [dif_pos h, show DyX m d (n.val + 1 + 1) = DyFly m d ⟨n.val + 2, h⟩ from dif_pos h]
    iapply (step_dyStart m d ⟨n.val + 2, h⟩) $$ H2
    iintro H2
    iapply Hk
    isplitr [Ho]
    · isplitl [H1]; · iexact H1
      isplitl [H2]; · iexact H2
      iexact H
    iexact Ho
  · rw [dif_neg h, show DyX m d (n.val + 1 + 1) = DyFree m d ⟨(n.val + 2) % 3, Nat.mod_lt _ (by decide)⟩ from dif_neg h]
    iapply Hk
    isplitr [Ho]
    · isplitl [H1]; · iexact H1
      isplitl [H2]; · iexact H2
      iexact H
    iexact Ho

/-! ## The device's own products -/

/-- The own half of each slot, when the products of the chunks below `n` have been formed: the last four are there. -/
def Own (n : ℕ) : sProp 𝕄 :=
  iprop(∃ w : Fin 4 → Vec F S1x1024x256 .bf16, ⌜∀ c : Fin 16, c.val < n → n ≤ c.val + 4 → w (slot4 c) = kept m d c⌝
    ∗ bigSep Finset.univ fun s : Fin 4 => has d (pM.slice (ownR d s) (fun _ => rfl)) fullShare (w s))

theorem own_put (n : Fin 16) :
    Own m d n.val ⊢ iprop(room d (pM.slice (ownR d (slot4 n)) (fun _ => rfl))
      ∗ (has d (pM.slice (ownR d (slot4 n)) (fun _ => rfl)) fullShare (kept m d n) -∗ Own m d (n.val + 1))) := by
  unfold Own
  iintro ⟨%w, %hw, H⟩
  ihave Hx := (exchange (slot4 n) (A := fun s : Fin 4 => has d (pM.slice (ownR d s) (fun _ => rfl)) fullShare (w s))
    (B := fun s : Fin 4 => has d (pM.slice (ownR d s) (fun _ => rfl)) fullShare (Function.update w (slot4 n) (kept m d n) s))
    fun j hj => by rw [Function.update_of_ne hj]) $$ H
  icases Hx with ⟨H, Hb⟩
  isplitl [H]
  · iexists _; iexact H
  iintro H
  iexists (Function.update w (slot4 n) (kept m d n))
  isplitr
  · ipureintro
    intro c h1 h2
    by_cases hc : c = n
    · subst hc; exact Function.update_self _ _ _
    · have h3 : c.val ≠ n.val := fun e => hc (Fin.ext e)
      rw [Function.update_of_ne (fun e => by
        have := congrArg Fin.val e
        have h4 : c.val % 4 = n.val % 4 := this
        omega)]
      exact hw c (by omega) (by omega)
  iapply Hb
  rw [Function.update_self]
  iexact H

theorem own_take (c : Fin 16) {n : ℕ} (h1 : c.val < n) (h2 : n ≤ c.val + 4) :
    Own m d n ⊢ iprop(has d (pM.slice (ownR d (slot4 c)) (fun _ => rfl)) fullShare (kept m d c)
      ∗ (has d (pM.slice (ownR d (slot4 c)) (fun _ => rfl)) fullShare (kept m d c) -∗ Own m d n)) := by
  unfold Own
  iintro ⟨%w, %hw, H⟩
  ihave Hx := (exchange (slot4 c) (A := fun s : Fin 4 => has d (pM.slice (ownR d s) (fun _ => rfl)) fullShare (w s))
    (B := fun s : Fin 4 => has d (pM.slice (ownR d s) (fun _ => rfl)) fullShare (w s)) fun j hj => rfl) $$ H
  icases Hx with ⟨H, Hb⟩
  rw [hw c h1 h2]
  isplitl [H]; · iexact H
  iintro H
  iexists w
  isplitr; · ipureintro; exact hw
  iapply Hb
  iexact H

/-! ## The stages -/

/-- The exchange of partial products when those of the chunks below `n` have been sent: the last four may be on their way. -/
def RsS (n : ℕ) : sProp 𝕄 := iprop(fam (n - 4) n (RsDone d) (RsFly d) (RsTodo d) ∗ slotsFrom n fun s => room d (othV d s))

/-- The reduction when the chunks below `r` have been reduced and handed on: the last four may be on their way. -/
def RedS (r : ℕ) : sProp 𝕄 :=
  iprop(fam (r - 4) r (OutDone m d) (OutFly m d) (OutTodo d) ∗ slotsFrom r (RedFree d) ∗ fam 0 r (RecvDone m d) (RecvDone m d) (RecvTodo d))

/-- The gather when the other row's chunks below `g` have been received. -/
def AgS (g : ℕ) : sProp 𝕄 := fam 0 g (AgDone m d) (AgFly m d) (AgTodo d)

/-- The partner's half of the chunk's slot is free once the chunk four before has left. -/
theorem step_freeOth {Q : PUnit.{1} → sProp 𝕄} (n : Fin 16) {k : Tail F} {o o' : ℕ} :
    iprop(records m K ∗ RsS d n.val ∗ owing d (Due d o o'))
      ⊢ iprop((iprop(fam (n.val + 1 - 4) n.val (RsDone d) (RsFly d) (RsTodo d) ∗ (slotsFrom (n.val + 1) fun s => room d (othV d s))
            ∗ room d (othV d (slot4 n)) ∗ owing d (Due d o o')) -∗ run d k Q)
        -∗ run d (back 4 n (rsLeft d) k) Q) := by
  unfold RsS back
  by_cases h : 4 ≤ n.val
  · rw [if_pos h, slotsFrom_four _ h (show 4 ≤ n.val + 1 by omega), show n.val + 1 - 4 = n.val - 4 + 1 by omega]
    have e : slot4 n = slot4 ⟨n.val - 4, lt_of_le_of_lt (Nat.sub_le _ _) n.isLt⟩ := Fin.ext (show n.val % 4 = (n.val - 4) % 4 by omega)
    rw [e]
    iintro ⟨#HR, ⟨Hf, Hs⟩, Ho⟩ Hk
    ihave Hx := (fam_end ⟨n.val - 4, lt_of_le_of_lt (Nat.sub_le _ _) n.isLt⟩ (show n.val - 4 < n.val by omega) (RsDone d) (RsFly d) (RsTodo d)) $$ Hf
    icases Hx with ⟨Hc, Hb⟩
    iapply (step_rsLeft m K d ⟨n.val - 4, lt_of_le_of_lt (Nat.sub_le _ _) n.isLt⟩) $$ [Hc Ho]
    · isplitr; · iexact HR
      isplitl [Hc]; · iexact Hc
      iexact Ho
    iintro ⟨Hd, Hr, Ho⟩
    iapply Hk
    isplitl [Hd Hb]; · iapply Hb; iexact Hd
    isplitl [Hs]; · iexact Hs
    isplitl [Hr]; · iexact Hr
    iexact Ho
  · rw [if_neg h, show n.val + 1 - 4 = n.val - 4 by omega]
    have e : n.val = (slot4 n).val := (Nat.mod_eq_of_lt (by omega)).symm
    iintro ⟨-, ⟨Hf, Hs⟩, Ho⟩ Hk
    ihave Hx := (show (slotsFrom n.val fun s => room d (othV d s) : sProp 𝕄)
        ⊢ iprop(room d (othV d (slot4 n)) ∗ slotsFrom (n.val + 1) fun s => room d (othV d s)) from by
      rw [e]
      have e' : slot4 ⟨(slot4 n).val, by omega⟩ = slot4 n := Fin.ext (Nat.mod_mod _ _)
      exact slots_take (slot4 n) fun s => room d (othV d s)) $$ Hs
    icases Hx with ⟨Hr, Hs⟩
    iapply Hk
    isplitl [Hf]; · iexact Hf
    isplitl [Hs]; · iexact Hs
    isplitl [Hr]; · iexact Hr
    iexact Ho

/-- Reducing chunk `c` and handing it on. -/
theorem step_finish {Q : PUnit.{1} → sProp 𝕄} (c : Fin 16) {k : Tail F} {n : ℕ} (h1 : c.val < n) (h2 : n ≤ c.val + 4) {o : ℕ} (ho : c.val < o) :
    iprop(records m K ∗ RedS m d c.val ∗ Own m d n ∗ owing d (Due d o c.val))
      ⊢ iprop((iprop(RedS m d (c.val + 1) ∗ Own m d n ∗ owing d (Due d o (c.val + 1))) -∗ run d k Q) -∗ run d (finish d c k) Q) := by
  -- the slot is free once the chunk four before has been handed on
  have hfree : ∀ k : Tail F, iprop(records m K ∗ fam (c.val - 4) c.val (OutDone m d) (OutFly m d) (OutTodo d) ∗ slotsFrom c.val (RedFree d) ∗ owing d (Due d o c.val))
      ⊢ iprop((iprop(fam (c.val + 1 - 4) c.val (OutDone m d) (OutFly m d) (OutTodo d) ∗ slotsFrom (c.val + 1) (RedFree d) ∗ RedFree d (slot4 c) ∗ owing d (Due d o c.val)) -∗ run d k Q)
        -∗ run d (back 4 c (fun c' k => outLeft d c' (agLeft c' k)) k) Q) := by
    intro k
    unfold back
    by_cases h : 4 ≤ c.val
    · rw [if_pos h, slotsFrom_four _ h (show 4 ≤ c.val + 1 by omega), show c.val + 1 - 4 = c.val - 4 + 1 by omega]
      have e : slot4 c = slot4 ⟨c.val - 4, lt_of_le_of_lt (Nat.sub_le _ _) c.isLt⟩ := Fin.ext (show c.val % 4 = (c.val - 4) % 4 by omega)
      rw [e]
      iintro ⟨#HR, Hf, Hs, Ho⟩ Hk
      ihave Hx := (fam_end ⟨c.val - 4, lt_of_le_of_lt (Nat.sub_le _ _) c.isLt⟩ (show c.val - 4 < c.val by omega) (OutDone m d) (OutFly m d) (OutTodo d)) $$ Hf
      icases Hx with ⟨Hc, Hb⟩
      iapply (step_outLeft m K d ⟨c.val - 4, lt_of_le_of_lt (Nat.sub_le _ _) c.isLt⟩) $$ [Hc Ho]
      · isplitr; · iexact HR
        isplitl [Hc]; · iexact Hc
        iexact Ho
      iintro ⟨Hd, Hr, Ho⟩
      iapply Hk
      isplitl [Hd Hb]; · iapply Hb; iexact Hd
      isplitl [Hs]; · iexact Hs
      isplitl [Hr]; · iexact Hr
      iexact Ho
    · rw [if_neg h, show c.val + 1 - 4 = c.val - 4 by omega]
      have e : (slot4 c).val = c.val := Nat.mod_eq_of_lt (by omega)
      iintro ⟨-, Hf, Hs, Ho⟩ Hk
      ihave Hx := (show (slotsFrom c.val (RedFree d) : sProp 𝕄) ⊢ iprop(RedFree d (slot4 c) ∗ slotsFrom (c.val + 1) (RedFree d)) from by
        have := slots_take (slot4 c) (RedFree (F := F) d); rwa [e] at this) $$ Hs
      icases Hx with ⟨Hr, Hs⟩
      iapply Hk
      isplitl [Hf]; · iexact Hf
      isplitl [Hs]; · iexact Hs
      isplitl [Hr]; · iexact Hr
      iexact Ho
  unfold RedS finish
  iintro ⟨#HR, ⟨Hf, Hs, Hrecv⟩, Hown, Ho⟩ Hk
  iapply (hfree _) $$ [Hf Hs Ho]
  · isplitr; · iexact HR
    isplitl [Hf]; · iexact Hf
    isplitl [Hs]; · iexact Hs
    iexact Ho
  iintro ⟨Hf, Hs, Hr, Ho⟩
  ihave Hx := (fam_start c (Nat.zero_le _) (RecvDone m d) (RecvDone m d) (RecvTodo d)) $$ Hrecv
  icases Hx with ⟨Hc, Hrecv⟩
  iapply (step_rsTake m K d c ho) $$ [Hc Ho]
  · isplitr; · iexact HR
    isplitl [Hc]; · iexact Hc
    iexact Ho
  iintro ⟨Hc, Ho⟩
  ihave Hx := (own_take m d c h1 h2) $$ Hown
  icases Hx with ⟨Hp, Hown⟩
  unfold RedFree
  icases Hr with ⟨Hr, Hi⟩
  iapply (step_addHalves m d c) $$ [Hp Hc Hr]
  · isplitl [Hp]; · iexact Hp
    isplitl [Hc]; · iexact Hc
    iexact Hr
  iintro ⟨Hp, Hc, Hr⟩
  ihave Hx := (fam_start c (show c.val + 1 - 4 ≤ c.val by omega) (OutDone m d) (OutFly m d) (OutTodo d)) $$ Hf
  icases Hx with ⟨Ht, Hf⟩
  iapply (step_outStart m K d c) $$ [Hr Hi Ht Ho]
  · isplitr; · iexact HR
    isplitl [Hr]; · iexact Hr
    isplitl [Hi]; · iexact Hi
    isplitl [Ht]; · iexact Ht
    iexact Ho
  iintro ⟨Ht, Ho⟩
  iapply Hk
  isplitl [Hf Ht Hs Hrecv Hc]
  · isplitl [Hf Ht]; · iapply Hf; iexact Ht
    isplitl [Hs]; · iexact Hs
    iapply Hrecv; iexact Hc
  isplitl [Hown Hp]; · iapply Hown; iexact Hp
  iexact Ho

/-- Receiving the other row's chunk `c`. -/
theorem step_gatherS {Q : PUnit.{1} → sProp 𝕄} (c : Fin 16) {k : Tail F} {o o' : ℕ} (ho : c.val + 1 ≤ o) (ho' : c.val + 1 ≤ o') :
    iprop(records m K ∗ AgS m d c.val ∗ owing d (Due d o o'))
      ⊢ iprop((iprop(AgS m d (c.val + 1) ∗ owing d (Due d o o')) -∗ run d k Q) -∗ run d (gather d c k) Q) := by
  unfold AgS
  iintro ⟨#HR, Hf, Ho⟩ Hk
  ihave Hx := (fam_start c (Nat.zero_le _) (AgDone m d) (AgFly m d) (AgTodo d)) $$ Hf
  icases Hx with ⟨Hc, Hf⟩
  iapply (step_gather m K d c ho ho') $$ [Hc Ho]
  · isplitr; · iexact HR
    isplitl [Hc]; · iexact Hc
    iexact Ho
  iintro ⟨Hc, Ho⟩
  iapply Hk
  isplitr [Ho]; · iapply Hf; iexact Hc
  iexact Ho

/-! ## A chunk -/

/-- The device's resources when chunk `n` is next. -/
def LoopS (n : ℕ) : sProp 𝕄 :=
  iprop(DyS m d n ∗ X16 m d ∗ RsS d n ∗ Own m d n ∗ RedS m d (n - 2) ∗ AgS m d (n - 4) ∗ owing d (Due d n (n - 2)))

/-- The second half of a chunk: its own product, the chunk two before reduced, the chunk four before gathered. -/
theorem step_chunkEnd {Q : PUnit.{1} → sProp 𝕄} (n : Fin 16) {k : Tail F} :
    iprop(records m K ∗ X16 m d ∗ Own m d n.val ∗ RedS m d (n.val - 2) ∗ AgS m d (n.val - 4) ∗ owing d (Due d (n.val + 1) (n.val - 2)))
      ⊢ iprop((iprop(X16 m d ∗ Own m d (n.val + 1) ∗ RedS m d (n.val + 1 - 2) ∗ AgS m d (n.val + 1 - 4) ∗ owing d (Due d (n.val + 1) (n.val + 1 - 2))) -∗ run d k Q)
        -∗ run d (mmOwn d n (dyTile m d n) (back 2 n (finish d) (back 4 n (gather d) k))) Q) := by
  have hfin : ∀ k : Tail F, iprop(records m K ∗ Own m d (n.val + 1) ∗ RedS m d (n.val - 2) ∗ owing d (Due d (n.val + 1) (n.val - 2)))
      ⊢ iprop((iprop(Own m d (n.val + 1) ∗ RedS m d (n.val + 1 - 2) ∗ owing d (Due d (n.val + 1) (n.val + 1 - 2))) -∗ run d k Q)
        -∗ run d (back 2 n (finish d) k) Q) := by
    intro k
    unfold back
    by_cases h : 2 ≤ n.val
    · rw [if_pos h, show n.val + 1 - 2 = n.val - 2 + 1 by omega]
      iintro ⟨#HR, Hown, Hred, Ho⟩ Hk
      iapply (step_finish m K d ⟨n.val - 2, lt_of_le_of_lt (Nat.sub_le _ _) n.isLt⟩ (n := n.val + 1) (show n.val - 2 < n.val + 1 by omega) (show n.val + 1 ≤ n.val - 2 + 4 by omega)
        (o := n.val + 1) (show n.val - 2 < n.val + 1 by omega)) $$ [Hown Hred Ho]
      · isplitr; · iexact HR
        isplitl [Hred]; · iexact Hred
        isplitl [Hown]; · iexact Hown
        iexact Ho
      iintro ⟨Hred, Hown, Ho⟩
      iapply Hk
      isplitl [Hown]; · iexact Hown
      isplitl [Hred]; · iexact Hred
      iexact Ho
    · rw [if_neg h, show n.val + 1 - 2 = n.val - 2 by omega]
      iintro ⟨-, H⟩ Hk
      iapply Hk; iexact H
  have hgat : ∀ k : Tail F, iprop(records m K ∗ AgS m d (n.val - 4) ∗ owing d (Due d (n.val + 1) (n.val + 1 - 2)))
      ⊢ iprop((iprop(AgS m d (n.val + 1 - 4) ∗ owing d (Due d (n.val + 1) (n.val + 1 - 2))) -∗ run d k Q) -∗ run d (back 4 n (gather d) k) Q) := by
    intro k
    unfold back
    by_cases h : 4 ≤ n.val
    · rw [if_pos h, show n.val + 1 - 4 = n.val - 4 + 1 by omega]
      exact step_gatherS m K d ⟨n.val - 4, lt_of_le_of_lt (Nat.sub_le _ _) n.isLt⟩ (show n.val - 4 + 1 ≤ n.val + 1 by omega) (show n.val - 4 + 1 ≤ n.val + 1 - 2 by omega)
    · rw [if_neg h, show n.val + 1 - 4 = n.val - 4 by omega]
      iintro ⟨-, H⟩ Hk
      iapply Hk; iexact H
  iintro ⟨#HR, H16, Hown, Hred, Hag, Ho⟩ Hk
  ihave Hx := (own_put m d n) $$ Hown
  icases Hx with ⟨Hp, Hown⟩
  iapply (step_mmOwn m d n) $$ [H16 Hp]
  · isplitl [H16]; · iexact H16
    iexact Hp
  iintro ⟨H16, Hp⟩
  ihave Hown := Hown $$ Hp
  iapply (hfin _) $$ [Hown Hred Ho]
  · isplitr; · iexact HR
    isplitl [Hown]; · iexact Hown
    isplitl [Hred]; · iexact Hred
    iexact Ho
  iintro ⟨Hown, Hred, Ho⟩
  iapply (hgat _) $$ [Hag Ho]
  · isplitr; · iexact HR
    isplitl [Hag]; · iexact Hag
    iexact Ho
  iintro ⟨Hag, Ho⟩
  iapply Hk
  isplitl [H16]; · iexact H16
  isplitl [Hown]; · iexact Hown
  isplitl [Hred]; · iexact Hred
  isplitl [Hag]; · iexact Hag
  iexact Ho

/-- A chunk past the first. -/
theorem step_chunk {Q : PUnit.{1} → sProp 𝕄} (n : Fin 16) (hn : 1 ≤ n.val) (k : Tail F) :
    iprop(records m K ∗ LoopS m d n.val) ⊢ iprop((LoopS m d (n.val + 1) -∗ run d k Q) -∗ run d (chunk d n k) Q) := by
  unfold LoopS chunk
  iintro ⟨#HR, Hdy, H16, Hrs, Hown, Hred, Hag, Ho⟩ Hk
  iapply (step_fetch m K d n) $$ [Hdy Ho]
  · isplitr; · iexact HR
    isplitl [Hdy]; · iexact Hdy
    iexact Ho
  iintro ⟨Hdy, Ho⟩
  iapply (step_freeOth m K d n) $$ [Hrs Ho]
  · isplitr; · iexact HR
    isplitl [Hrs]; · iexact Hrs
    iexact Ho
  iintro ⟨Hf, Hs, Hp, Ho⟩
  iapply (step_mmOth m d n) $$ [H16 Hp]
  · isplitl [H16]; · iexact H16
    iexact Hp
  iintro ⟨H16, Hp⟩
  dsimp only
  rw [if_neg (show ¬ n.val = 0 by omega)]
  ihave Hx := (fam_start n (show n.val + 1 - 4 ≤ n.val by omega) (RsDone d) (RsFly d) (RsTodo d)) $$ Hf
  icases Hx with ⟨Ht, Hf⟩
  iapply (step_rsStart m K d n (n.val - 2)) $$ [Hp Ht Ho]
  · isplitr; · iexact HR
    isplitl [Hp]; · iexact Hp
    isplitl [Ht]; · iexact Ht
    iexact Ho
  iintro ⟨Ht, Ho⟩
  iapply (step_chunkEnd m K d n) $$ [H16 Hown Hred Hag Ho]
  · isplitr; · iexact HR
    isplitl [H16]; · iexact H16
    isplitl [Hown]; · iexact Hown
    isplitl [Hred]; · iexact Hred
    isplitl [Hag]; · iexact Hag
    iexact Ho
  iintro ⟨H16, Hown, Hred, Hag, Ho⟩
  iapply Hk
  isplitl [Hdy]; · iexact Hdy
  isplitl [H16]; · iexact H16
  isplitl [Hf Ht Hs]
  · unfold RsS
    isplitl [Hf Ht]; · iapply Hf; iexact Ht
    iexact Hs
  isplitl [Hown]; · iexact Hown
  isplitl [Hred]; · iexact Hred
  isplitl [Hag]; · iexact Hag
  iexact Ho

end Cert.Overlap

end
-- ==== Proof.Body.lean ====
module

public import proofs.«01_k».proof.Proof.Loop

/-! # The body of a device

The start cuts the buffers into their parts, the loop runs, the end joins the parts again. -/

@[expose] public section

set_option maxRecDepth 16384

noncomputable section

namespace Cert.Overlap

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

/-! ## Small families written out -/

theorem four (A : Fin 4 → sProp 𝕄) : (bigSep Finset.univ A : sProp 𝕄) = iprop(A 0 ∗ A 1 ∗ A 2 ∗ A 3) :=
  bigSep_univ_eq_bigSepL [0, 1, 2, 3] (by decide) (by decide) A
theorem three (A : Fin 3 → sProp 𝕄) : (bigSep Finset.univ A : sProp 𝕄) = iprop(A 0 ∗ A 1 ∗ A 2) :=
  bigSep_univ_eq_bigSepL [0, 1, 2] (by decide) (by decide) A
theorem two (A : Fin 2 → sProp 𝕄) : (bigSep Finset.univ A : sProp 𝕄) = iprop(A 0 ∗ A 1) :=
  bigSep_univ_eq_bigSepL [0, 1] (by decide) (by decide) A

theorem halves_sum {T T' : Type} [Fintype T] [Fintype T'] [DecidableEq T] [DecidableEq T'] (A : T ⊕ T' → sProp 𝕄) :
    (bigSep Finset.univ A : sProp 𝕄) = iprop((bigSep Finset.univ fun t => A (.inl t)) ∗ bigSep Finset.univ fun t => A (.inr t)) :=
  BI.bigSep_univ_sum A

section Squeezed

variable {sp : Space} {s s' : Shape} {e : EltTy} (d : Dev nD) (M : Memref sig .tc sp s e)
variable {T : Type} [Fintype T] [DecidableEq T] (r : T → Rect s) (hr : ∀ t a, (r t).stride a = 1)
  (hd : ∀ t t', t ≠ t' → Disjoint (r t).set (r t').set)
  (hcov : (Finset.univ : Finset T).biUnion (fun t => (r t).set) = Finset.univ)
  (hs : ∀ t, (r t).shape.Squeezes s')

include hd hcov in
/-- A buffer at any contents is its slots, each without the slot's axis. -/
theorem room_slots : (room d M : sProp 𝕄) ⊢ bigSep Finset.univ fun t => room d ((M.slice (r t) (hr t)).squeeze s' (hs t)) :=
  (room_cut d M r hr hd hcov).trans (bigSep_mono fun t _ => (room_squeeze d (M.slice (r t) (hr t)) (hs t)).1)

include hd hcov in
theorem slots_room : (bigSep Finset.univ fun t => room d ((M.slice (r t) (hr t)).squeeze s' (hs t)) : sProp 𝕄) ⊢ room d M :=
  BIBase.Entails.trans (show (bigSep Finset.univ fun t => room d ((M.slice (r t) (hr t)).squeeze s' (hs t)) : sProp 𝕄)
    ⊢ bigSep Finset.univ fun t => room d (M.slice (r t) (hr t)) from bigSep_mono fun t _ => (room_squeeze d (M.slice (r t) (hr t)) (hs t)).2)
    (room_glue d M r hr hd hcov)

end Squeezed

variable (m : (ℓ : Loc nD τ sig) → Buf (Elt F) ℓ) (K : Dev nD × Ring → ℕ) (d : Dev nD)

/-! ## Cutting and joining -/

/-- x, its staging buffer and its semaphores are the two staging slots at rest. -/
theorem x_cut : iprop(has d xM fullShare (xAt m d) ∗ room d xstM ∗ bigSep Finset.univ fun s => idle d (xSem s)) ⊢ (bigSep Finset.univ (XFree m d) : sProp 𝕄) := by
  iintro ⟨Hx, Hs, Hi⟩
  ihave Hs := (room_slots d xstM xstR (fun _ _ => rfl) xstR_disjoint xstR_cover fun _ => squeezes_S1x512x2048_S512x2048) $$ Hs
  ihave Hx := (owns_halves (d : Thread nD τ) xM fullShare (xAt m d)).1 $$ Hx
  icases Hx with ⟨H0, H1⟩
  ihave Hs := (Entails.of_eq (two fun s => room (F := F) d (xstV s))) $$ Hs
  icases Hs with ⟨S0, S1⟩
  ihave Hi := (Entails.of_eq (two fun s => idle (F := F) d (xSem s))) $$ Hi
  icases Hi with ⟨I0, I1⟩
  rw [two]
  unfold XFree
  isplitl [H0 S0 I0]
  · isplitl [H0]; · iexact H0
    isplitl [S0]; · iexact S0
    iexact I0
  · isplitl [H1]; · iexact H1
    isplitl [S1]; · iexact S1
    iexact I1

theorem x_join : (bigSep Finset.univ (XFree m d) : sProp 𝕄) ⊢ iprop(has d xM fullShare (xAt m d) ∗ room d xstM ∗ bigSep Finset.univ fun s => idle d (xSem s)) := by
  unfold XFree
  rw [bigSep_sep', bigSep_sep']
  iintro ⟨Hx, Hs, Hi⟩
  isplitl [Hx]
  · iapply (show iprop(has d xM fullShare.left (xAt m d) ∗ has d xM fullShare.right (xAt m d)) ⊢ (has d xM fullShare (xAt m d) : sProp 𝕄) from
      (owns_halves (d : Thread nD τ) xM fullShare (xAt m d)).2)
    iapply (Entails.of_eq (two fun s => has d xM (xShare s) (xAt m d))); iexact Hx
  isplitl [Hs]
  · iapply (slots_room d xstM xstR (fun _ _ => rfl) xstR_disjoint xstR_cover fun _ => squeezes_S1x512x2048_S512x2048); iexact Hs
  iexact Hi

/-- dy, its ring and its semaphores are the three slots at rest. -/
theorem dy_cut : iprop(has d dyM fullShare (dyAt m d) ∗ room d dyvM ∗ bigSep Finset.univ fun s => idle d (dySem s)) ⊢ (bigSep Finset.univ (DyFree m d) : sProp 𝕄) := by
  unfold DyFree
  rw [bigSep_sep', bigSep_sep']
  iintro ⟨Hx, Hs, Hi⟩
  isplitl [Hx]
  · ihave Hx := (owns_halves (d : Thread nD τ) dyM fullShare (dyAt m d)).1 $$ Hx
    icases Hx with ⟨H0, Hx⟩
    ihave Hx := (owns_halves (d : Thread nD τ) dyM fullShare.right (dyAt m d)).1 $$ Hx
    rw [three]
    isplitl [H0]; · iexact H0
    iexact Hx
  isplitl [Hs]
  · iapply (room_slots d dyvM dyvR (fun _ _ => rfl) dyvR_disjoint dyvR_cover fun _ => squeezes_S1x2048x256_S2048x256); iexact Hs
  iexact Hi

theorem dy_join : (bigSep Finset.univ (DyFree m d) : sProp 𝕄) ⊢ iprop(has d dyM fullShare (dyAt m d) ∗ room d dyvM ∗ bigSep Finset.univ fun s => idle d (dySem s)) := by
  unfold DyFree
  rw [bigSep_sep', bigSep_sep']
  iintro ⟨Hx, Hs, Hi⟩
  isplitl [Hx]
  · ihave Hx := (Entails.of_eq (three fun s => has d dyM (dyShare s) (dyAt m d))) $$ Hx
    icases Hx with ⟨H0, Hx⟩
    iapply (show iprop(has d dyM fullShare.left (dyAt m d) ∗ has d dyM fullShare.right (dyAt m d)) ⊢ (has d dyM fullShare (dyAt m d) : sProp 𝕄) from
      (owns_halves (d : Thread nD τ) dyM fullShare (dyAt m d)).2)
    isplitl [H0]; · iexact H0
    iapply (show iprop(has d dyM fullShare.right.left (dyAt m d) ∗ has d dyM fullShare.right.right (dyAt m d)) ⊢ (has d dyM fullShare.right (dyAt m d) : sProp 𝕄) from
      (owns_halves (d : Thread nD τ) dyM fullShare.right (dyAt m d)).2)
    iexact Hx
  isplitl [Hs]
  · iapply (slots_room d dyvM dyvR (fun _ _ => rfl) dyvR_disjoint dyvR_cover fun _ => squeezes_S1x2048x256_S2048x256); iexact Hs
  iexact Hi

/-- The ring of partial products is the partner's halves and the own halves. -/
theorem p_cut : (room d pM : sProp 𝕄) ⊢ iprop((bigSep Finset.univ fun s => room d (othV d s)) ∗ bigSep Finset.univ fun s => room d (pM.slice (ownR d s) (fun _ => rfl))) := by
  iintro H
  ihave H := (room_cut d pM (pR d) (fun _ _ => rfl) (pR_disjoint d) (pR_cover d)) $$ H
  ihave H := (Entails.of_eq (halves_sum fun t => room (F := F) d (pM.slice (pR d t) (fun _ => rfl)))) $$ H
  icases H with ⟨Ho, Hw⟩
  isplitl [Ho]
  · iapply (show (bigSep Finset.univ fun s => room d (pM.slice (othR d s) (fun _ => rfl)) : sProp 𝕄) ⊢ bigSep Finset.univ fun s => room d (othV d s) from
      bigSep_mono fun s _ => (room_squeeze d (pM.slice (othR d s) (fun _ => rfl)) squeezes_S1x1024x256_S1024x256).1)
    iexact Ho
  iexact Hw

theorem p_join : iprop((bigSep Finset.univ fun s => room d (othV d s)) ∗ bigSep Finset.univ fun s => room d (pM.slice (ownR d s) (fun _ => rfl))) ⊢ (room d pM : sProp 𝕄) := by
  iintro ⟨Ho, Hw⟩
  iapply (room_glue d pM (pR d) (fun _ _ => rfl) (pR_disjoint d) (pR_cover d))
  iapply (Entails.of_eq (halves_sum fun t => room (F := F) d (pM.slice (pR d t) (fun _ => rfl))).symm)
  isplitl [Ho]
  · iapply (show (bigSep Finset.univ fun s => room d (othV d s) : sProp 𝕄) ⊢ bigSep Finset.univ fun s => room d (pM.slice (othR d s) (fun _ => rfl)) from
      bigSep_mono fun s _ => (room_squeeze d (pM.slice (othR d s) (fun _ => rfl)) squeezes_S1x1024x256_S1024x256).2)
    iexact Ho
  iexact Hw

/-- The result is the pieces of this device's chunks and of the other mesh row's. -/
theorem out_cut : (room d outM : sProp 𝕄) ⊢ iprop((bigSep Finset.univ fun c => room d (outV d c)) ∗ bigSep Finset.univ fun c => room d (out2V d c)) := by
  iintro H
  ihave H := (room_cut d outM (pieceR d) (fun _ _ => rfl) (pieceR_disjoint d) (pieceR_cover d)) $$ H
  ihave H := (Entails.of_eq (halves_sum fun t => room (F := F) d (outM.slice (pieceR d t) (fun _ => rfl)))) $$ H
  iexact H

theorem out_join : iprop((bigSep Finset.univ fun c => has d (outV d c) fullShare (redFlat m d c)) ∗ bigSep Finset.univ fun c => has d (out2V d c) fullShare (redFlat m (xnbr d) c))
    ⊢ (has d outM fullShare (outAt m d) : sProp 𝕄) := by
  unfold outAt
  iintro H
  iapply (has_glue d outM fullShare (pieceR d) (fun _ _ => rfl) (pieceR_disjoint d) (pieceR_cover d) (piece m d))
  iapply (Entails.of_eq (halves_sum fun t => has d (outM.slice (pieceR d t) (fun _ => rfl)) fullShare (piece m d t)).symm)
  iexact H

/-! ## The start -/

/-- What a device brings to the exchange of partial products, apart from the partner's buffer. -/
def RsTok (c : Fin 16) : sProp 𝕄 :=
  iprop(dutyTok ER (kcell (d, some (0, c))) 0 false ∗ dutyTok ER (kcell (ynbr d, some (1, c))) 0 false ∗ before d (some (0, c)))
/-- What a device brings to handing on chunk `c`, apart from the buffers. -/
def OutTok (c : Fin 16) : sProp 𝕄 :=
  iprop(dutyTok ER (kcell (d, some (2, c))) 0 false ∗ dutyTok ER (kcell (xnbr d, some (3, c))) 0 false ∗ before d (some (2, c)))
/-- What a device brings to receiving the other row's chunk `c`, apart from its piece of the result. -/
def AgTok (c : Fin 16) : sProp 𝕄 := iprop(coming d (some (3, c)) N ∗ before d (some (3, c)) ∗ idle d (out2Sem c))

/-- A device's part of the protocol's ghost state at the start, and its own semaphores. -/
def Tokens : sProp 𝕄 :=
  iprop((bigSep Finset.univ (RsTok (F := F) d)) ∗ (bigSep Finset.univ (OutTok (F := F) d)) ∗ (bigSep Finset.univ (RecvTodo (F := F) d)) ∗ (bigSep Finset.univ (AgTok (F := F) d))
    ∗ dutyTok ER (kcell (ynbr d, none)) 0 false ∗ dutyTok ER (kcell (xnbr d, none)) 0 true ∗ coming d none 2 ∗ before d none
    ∗ (bigSep Finset.univ fun s => idle d (xSem s)) ∗ (bigSep Finset.univ fun s => idle d (dySem s)) ∗ (bigSep Finset.univ fun s => idle d (outSem s)))

/-- The scratch buffers at any contents. -/
def Scratch : sProp 𝕄 := iprop(room d x16M ∗ room d xstM ∗ room d dyvM ∗ room d pM ∗ room d redM ∗ room d rsM ∗ room d agM)

/-- What chunk `c`'s handing on has before the neighbours have met. -/
def OutPre (c : Fin 16) : sProp 𝕄 := iprop(room d (outV d c) ∗ OutTok d c)

/-- The device's resources before the first chunk. -/
def Ready : sProp 𝕄 :=
  iprop(bigSep Finset.univ (XFree m d) ∗ DyS m d 0 ∗ X16 m d ∗ (bigSep Finset.univ fun s => room d (othV d s)) ∗ Own m d 0
    ∗ bigSep Finset.univ (RsTok (F := F) d) ∗ bigSep Finset.univ (OutPre (F := F) d) ∗ bigSep Finset.univ (RedFree (F := F) d) ∗ bigSep Finset.univ (RecvTodo (F := F) d)
    ∗ AgS m d 0 ∗ coming d none 2 ∗ before d none ∗ owing d (Due d 0 0))

set_option maxHeartbeats 1000000 in
theorem step_setup {Q : PUnit.{1} → sProp 𝕄} (k : Tail F) :
    iprop(records m K ∗ Tokens d ∗ Scratch d ∗ has d xM fullShare (xAt m d) ∗ has d dyM fullShare (dyAt m d) ∗ room d outM ∗ owing d (Owed d))
      ⊢ iprop((Ready m d -∗ run d k Q) -∗ run d (setup d k) Q) := by
  unfold Tokens Scratch Ready setup
  iintro ⟨#HR, ⟨Hrst, Houtt, Hrecv, Hagt, Hty, Htx, Hcn, Hbn, Hxi, Hdyi, Houti⟩, ⟨H16, Hxst, Hdyv, Hp, Hred, Hrs, Hag⟩, Hx, Hdy, Hout, Ho⟩ Hk
  -- the buffers in parts
  ihave Hrs := (room_slots d rsM recvR (fun _ _ => rfl) recvR_disjoint recvR_cover fun _ => squeezes_S1x1024x256_S1024x256) $$ Hrs
  ihave Hag := (room_slots d agM recvR (fun _ _ => rfl) recvR_disjoint recvR_cover fun _ => squeezes_S1x1024x256_S1024x256) $$ Hag
  ihave Hred := (room_slots d redM redR (fun _ _ => rfl) redR_disjoint redR_cover fun _ => squeezes_S1x1024x256_S1024x256) $$ Hred
  ihave Hp := (p_cut d) $$ Hp
  icases Hp with ⟨Hoth, Hown⟩
  ihave Hout := (out_cut d) $$ Hout
  icases Hout with ⟨Hout, Hout2⟩
  ihave Hxf := (x_cut m d) $$ [Hx Hxst Hxi]
  · isplitl [Hx]; · iexact Hx
    isplitl [Hxst]; · iexact Hxst
    iexact Hxi
  ihave Hdyf := (dy_cut m d) $$ [Hdy Hdyv Hdyi]
  · isplitl [Hdy]; · iexact Hdy
    isplitl [Hdyv]; · iexact Hdyv
    iexact Hdyi
  ihave H16 := (room_cut d x16M rowsR (fun _ _ => rfl) rowsR_disjoint rowsR_cover) $$ H16
  -- the neighbours are told
  iapply (step_announce m K d) $$ [Hrs Hag Hty Htx Ho]
  · isplitr; · iexact HR
    isplitl [Hrs]; · iexact Hrs
    isplitl [Hag]; · iexact Hag
    isplitl [Hty]; · iexact Hty
    isplitl [Htx]; · iexact Htx
    iexact Ho
  iintro Ho
  -- the first two chunks of dy
  ihave Hdyf := (Entails.of_eq (three (DyFree m d))) $$ Hdyf
  icases Hdyf with ⟨Hd0, Hd1, Hd2⟩
  iapply (step_dyStart m d 0) $$ [Hd0]
  · iexact Hd0
  iintro Hd0
  iapply (step_dyStart m d 1) $$ [Hd1]
  · iexact Hd1
  iintro Hd1
  -- the four tiles of x
  ihave Hxf := (Entails.of_eq (two (XFree m d))) $$ Hxf
  icases Hxf with ⟨Hx0, Hx1⟩
  ihave H16 := (Entails.of_eq (four fun i => room d (x16M.slice (rowsR i) (fun _ => rfl)))) $$ H16
  icases H16 with ⟨T0, T1, T2, T3⟩
  iapply (step_xStart m d 0) $$ [Hx0]
  · iexact Hx0
  iintro Hx0
  iapply (step_xStart m d 1) $$ [Hx1]
  · iexact Hx1
  iintro Hx1
  iapply (step_xTake m K d 0) $$ [Hx0 T0 Ho]
  · isplitr; · iexact HR
    isplitl [Hx0]; · iexact Hx0
    isplitl [T0]; · iexact T0
    iexact Ho
  iintro ⟨Hx0, T0, Ho⟩
  iapply (step_xStart m d 2) $$ [Hx0]
  · iexact Hx0
  iintro Hx0
  iapply (step_xTake m K d 1) $$ [Hx1 T1 Ho]
  · isplitr; · iexact HR
    isplitl [Hx1]; · iexact Hx1
    isplitl [T1]; · iexact T1
    iexact Ho
  iintro ⟨Hx1, T1, Ho⟩
  iapply (step_xStart m d 3) $$ [Hx1]
  · iexact Hx1
  iintro Hx1
  iapply (step_xTake m K d 2) $$ [Hx0 T2 Ho]
  · isplitr; · iexact HR
    isplitl [Hx0]; · iexact Hx0
    isplitl [T2]; · iexact T2
    iexact Ho
  iintro ⟨Hx0, T2, Ho⟩
  iapply (step_xTake m K d 3) $$ [Hx1 T3 Ho]
  · isplitr; · iexact HR
    isplitl [Hx1]; · iexact Hx1
    isplitl [T3]; · iexact T3
    iexact Ho
  iintro ⟨Hx1, T3, Ho⟩
  iapply Hk
  isplitl [Hx0 Hx1]
  · rw [two]
    isplitl [Hx0]; · iexact Hx0
    iexact Hx1
  isplitl [Hd0 Hd1 Hd2]
  · unfold DyS
    isplitl [Hd0]; · iapply (Entails.of_eq (show DyX m d 0 = DyFly m d 0 from dif_pos (by omega)).symm); iexact Hd0
    isplitl [Hd1]; · iapply (Entails.of_eq (show DyX m d (0 + 1) = DyFly m d 1 from dif_pos (by omega)).symm); iexact Hd1
    iexact Hd2
  isplitl [T0 T1 T2 T3]
  · unfold X16 x16
    iapply (has_glue d x16M fullShare rowsR (fun _ _ => rfl) rowsR_disjoint rowsR_cover fun i => k0_pay1 (xTile m d i))
    rw [four]
    isplitl [T0]; · iexact T0
    isplitl [T1]; · iexact T1
    isplitl [T2]; · iexact T2
    iexact T3
  isplitl [Hoth]; · iexact Hoth
  isplitl [Hown]
  · unfold Own
    haveI : ∀ s : Fin 4, Nonempty ((ownR d s).shape.Idx → Elt F .bf16) := fun _ => ⟨fun _ => (Elt.inhabited F .bf16).default⟩
    ihave Hown := (BI.bigSep_exists_pi Finset.univ (fun (s : Fin 4) X => has d (pM.slice (ownR d s) (fun _ => rfl)) fullShare X)) $$ Hown
    icases Hown with ⟨%w, Hown⟩
    iexists w
    isplitr; · ipureintro; intro c h; omega
    iexact Hown
  isplitl [Hrst]; · iexact Hrst
  isplitl [Hout Houtt]
  · unfold OutPre
    rw [bigSep_sep']
    isplitl [Hout]; · iexact Hout
    iexact Houtt
  isplitl [Hred Houti]
  · unfold RedFree
    rw [bigSep_sep']
    isplitl [Hred]; · iexact Hred
    iexact Houti
  isplitl [Hrecv]; · iexact Hrecv
  isplitl [Hagt Hout2]
  · unfold AgS
    rw [fam_none]
    ihave Hagt := (Entails.of_eq (show (bigSep Finset.univ (AgTok (F := F) d) : sProp 𝕄) = iprop((bigSep Finset.univ fun c => coming d (some (3, c)) N)
      ∗ (bigSep Finset.univ fun c => before d (some (3, c))) ∗ bigSep Finset.univ fun c => idle d (out2Sem c)) from by
        unfold AgTok; rw [bigSep_sep', bigSep_sep'])) $$ Hagt
    unfold AgTodo
    rw [bigSep_sep' _ (fun c => coming d (some (3, c)) N), bigSep_sep' _ (fun c => before d (some (3, c))), bigSep_sep']
    icases Hagt with ⟨Hc, Hb, Hi⟩
    isplitl [Hc]; · iexact Hc
    isplitl [Hb]; · iexact Hb
    isplitl [Hout2]; · iexact Hout2
    iexact Hi
  isplitl [Hcn]; · iexact Hcn
  isplitl [Hbn]; · iexact Hbn
  iexact Ho

/-! ## The first chunk -/

theorem step_first {Q : PUnit.{1} → sProp 𝕄} (k : Tail F) :
    iprop(records m K ∗ Ready m d)
      ⊢ iprop((iprop(LoopS m d 1 ∗ past d none ∗ bigSep Finset.univ (XFree m d)) -∗ run d k Q) -∗ run d (chunk d 0 k) Q) := by
  unfold Ready LoopS chunk
  iintro ⟨#HR, Hx, Hdy, H16, Hoth, Hown, Hrst, Houtt, Hred, Hrecv, Hag, Hcn, Hbn, Ho⟩ Hk
  iapply (step_fetch m K d 0) $$ [Hdy Ho]
  · isplitr; · iexact HR
    isplitl [Hdy]; · iexact Hdy
    iexact Ho
  iintro ⟨Hdy, Ho⟩
  rw [show ∀ k : Tail F, back 4 0 (rsLeft d) k = k from fun k => if_neg (by decide)]
  ihave Hoth := (Entails.of_eq (slotsFrom_zero fun s => room (F := F) d (othV d s)).symm) $$ Hoth
  ihave Hoth := (slots_take 0 fun s => room (F := F) d (othV d s)) $$ [Hoth]
  · iexact Hoth
  icases Hoth with ⟨Hp, Hoth⟩
  iapply (step_mmOth m d 0) $$ [H16 Hp]
  · isplitl [H16]; · iexact H16
    iexact Hp
  iintro ⟨H16, Hp⟩
  dsimp only
  rw [if_pos (show (0 : Fin 16).val = 0 from rfl)]
  iapply (step_meet m K d) $$ [Hcn Hbn Ho]
  · isplitr; · iexact HR
    isplitl [Hcn]; · iexact Hcn
    isplitl [Hbn]; · iexact Hbn
    iexact Ho
  iintro ⟨Hbn, Hy, Hxn, Ho⟩
  -- the neighbours' buffers go to the chunks
  ihave Hrs := (show iprop(bigSep Finset.univ (RsTok d) ∗ bigSep Finset.univ fun c : Fin 16 => room (ynbr d) (rsV c)) ⊢ (fam 0 0 (RsDone d) (RsFly d) (RsTodo d) : sProp 𝕄) from by
    rw [fam_none]
    unfold RsTok RsTodo
    simp only [bigSep_sep']
    iintro ⟨⟨H1, H2, H3⟩, H⟩
    isplitl [H1]; · iexact H1
    isplitl [H2]; · iexact H2
    isplitl [H]; · iexact H
    iexact H3) $$ [Hrst Hy]
  · isplitl [Hrst]; · iexact Hrst
    iexact Hy
  ihave Hout := (show iprop(bigSep Finset.univ (OutPre d) ∗ bigSep Finset.univ fun c : Fin 16 => room (xnbr d) (agV c)) ⊢ (fam 0 0 (OutDone m d) (OutFly m d) (OutTodo d) : sProp 𝕄) from by
    rw [fam_none]
    unfold OutPre OutTok OutTodo
    simp only [bigSep_sep']
    iintro ⟨⟨H0, H1, H2, H3⟩, H⟩
    isplitl [H0]; · iexact H0
    isplitl [H1]; · iexact H1
    isplitl [H2]; · iexact H2
    isplitl [H]; · iexact H
    iexact H3) $$ [Houtt Hxn]
  · isplitl [Houtt]; · iexact Houtt
    iexact Hxn
  ihave Hrs := (fam_start 0 (Nat.zero_le _) (RsDone d) (RsFly d) (RsTodo d)) $$ [Hrs]
  · iexact Hrs
  icases Hrs with ⟨Ht, Hrs⟩
  iapply (step_rsStart m K d 0 0) $$ [Hp Ht Ho]
  · isplitr; · iexact HR
    isplitl [Hp]; · iexact Hp
    isplitl [Ht]; · iexact Ht
    iexact Ho
  iintro ⟨Ht, Ho⟩
  iapply (step_chunkEnd m K d 0) $$ [H16 Hown Hout Hred Hrecv Hag Ho]
  · isplitr; · iexact HR
    isplitl [H16]; · iexact H16
    isplitl [Hown]; · iexact Hown
    isplitl [Hout Hred Hrecv]
    · unfold RedS
      isplitl [Hout]; · iexact Hout
      isplitl [Hred]; · iapply (Entails.of_eq (slotsFrom_zero (RedFree (F := F) d)).symm); iexact Hred
      iapply (Entails.of_eq (fam_none (RecvDone m d) (RecvDone m d) (RecvTodo d)).symm); iexact Hrecv
    isplitl [Hag]; · iexact Hag
    iexact Ho
  iintro ⟨H16, Hown, Hred, Hag, Ho⟩
  iapply Hk
  isplitr [Hbn Hx]
  · isplitl [Hdy]; · iexact Hdy
    isplitl [H16]; · iexact H16
    isplitl [Hrs Ht Hoth]
    · unfold RsS
      isplitl [Hrs Ht]; · iapply Hrs; iexact Ht
      iexact Hoth
    isplitl [Hown]; · iexact Hown
    isplitl [Hred]; · iexact Hred
    isplitl [Hag]; · iexact Hag
    iexact Ho
  isplitl [Hbn]; · iexact Hbn
  iexact Hx

/-! ## The end -/

/-- The last waits, when those of the chunks below `j` are over. -/
def DrainS (j : ℕ) : sProp 𝕄 :=
  iprop(fam j 16 (RsDone d) (RsFly d) (RsTodo d) ∗ fam j 16 (OutDone m d) (OutFly m d) (OutTodo d)
    ∗ (slotsBelow (j - 12) fun s => room d (othV d s)) ∗ slotsBelow (j - 12) (RedFree d) ∗ owing d (Due d 16 16))

theorem step_drain {Q : PUnit.{1} → sProp 𝕄} (c : Fin 16) (hc : 12 ≤ c.val) (k : Tail F) :
    iprop(records m K ∗ DrainS m d c.val) ⊢ iprop((DrainS m d (c.val + 1) -∗ run d k Q) -∗ run d (drain d c k) Q) := by
  have e : (slot4 c).val = c.val - 12 := show c.val % 4 = c.val - 12 by omega
  unfold DrainS drain
  rw [show c.val + 1 - 12 = (slot4 c).val + 1 by omega, ← e]
  iintro ⟨#HR, Hrs, Hout, Hoth, Hred, Ho⟩ Hk
  ihave Hx := (fam_end c c.isLt (RsDone d) (RsFly d) (RsTodo d)) $$ Hrs
  icases Hx with ⟨Ht, Hrs⟩
  iapply (step_rsLeft m K d c) $$ [Ht Ho]
  · isplitr; · iexact HR
    isplitl [Ht]; · iexact Ht
    iexact Ho
  iintro ⟨Ht, Hp, Ho⟩
  ihave Hx := (fam_end c c.isLt (OutDone m d) (OutFly m d) (OutTodo d)) $$ Hout
  icases Hx with ⟨Hu, Hout⟩
  iapply (step_outLeft m K d c) $$ [Hu Ho]
  · isplitr; · iexact HR
    isplitl [Hu]; · iexact Hu
    iexact Ho
  iintro ⟨Hu, Hr, Ho⟩
  iapply Hk
  isplitl [Hrs Ht]; · iapply Hrs; iexact Ht
  isplitl [Hout Hu]; · iapply Hout; iexact Hu
  isplitl [Hoth Hp]
  · iapply (slots_put (slot4 c) fun s => room d (othV d s))
    isplitl [Hp]; · iexact Hp
    iexact Hoth
  isplitl [Hred Hr]
  · iapply (slots_put (slot4 c) (RedFree d))
    isplitl [Hr]; · iexact Hr
    iexact Hred
  iexact Ho

/-- The gathered chunks' copies, when those below `j` are over. -/
def LandS (j : ℕ) : sProp 𝕄 := iprop(fam j 16 (AgDone m d) (AgFly m d) (AgTodo d) ∗ owing d (Due d 16 16))

theorem step_land {Q : PUnit.{1} → sProp 𝕄} (c : Fin 16) (k : Tail F) :
    iprop(records m K ∗ LandS m d c.val) ⊢ iprop((LandS m d (c.val + 1) -∗ run d k Q) -∗ run d (out2Left d c k) Q) := by
  unfold LandS
  iintro ⟨#HR, Hf, Ho⟩ Hk
  ihave Hx := (fam_end c c.isLt (AgDone m d) (AgFly m d) (AgTodo d)) $$ Hf
  icases Hx with ⟨Ht, Hf⟩
  iapply (step_out2Left m K d c) $$ [Ht Ho]
  · isplitr; · iexact HR
    isplitl [Ht]; · iexact Ht
    iexact Ho
  iintro ⟨Ht, Ho⟩
  iapply Hk
  isplitr [Ho]; · iapply Hf; iexact Ht
  iexact Ho

/-- A family over the cells, by their kind. -/
theorem ring_split (A : Ring → sProp 𝕄) : (bigSep Finset.univ A : sProp 𝕄)
    = iprop(A none ∗ (bigSep Finset.univ fun c => A (some (0, c))) ∗ (bigSep Finset.univ fun c => A (some (1, c))) ∗ (bigSep Finset.univ fun c => A (some (2, c))) ∗ bigSep Finset.univ fun c => A (some (3, c))) := by
  rw [BI.bigSep_univ_equiv ((Equiv.sumComm PUnit.{1} (Fin 4 × Fin 16)).trans (Equiv.optionEquivSumPUnit.{0, 0} (Fin 4 × Fin 16)).symm) A, halves_sum, bigSep_univ_prod, four,
    bigSep_univ_of_subsingleton PUnit.unit]
  rfl

/-- The copies' semaphores at rest. -/
def Rest : sProp 𝕄 :=
  iprop((bigSep Finset.univ fun s => idle d (xSem s)) ∗ (bigSep Finset.univ fun s => idle d (dySem s)) ∗ (bigSep Finset.univ fun s => idle d (outSem s)) ∗ (bigSep Finset.univ fun c => idle d (out2Sem c)))

/-- Every cell's semaphore is at zero for good when its wait is over. -/
theorem cells_close : iprop(records m K ∗ bigSep Finset.univ fun g : Ring => past d g) ⊢ (|={Set.univ}=> bigSep Finset.univ fun g : Ring => semVal (kcell (d, g)) 0 : sProp 𝕄) := by
  refine BIBase.Entails.trans ?_ (show _ ⊢ _ from bigSep_fupd Finset.univ (fun g : Ring => semVal (kcell (d, g)) 0))
  refine BIBase.Entails.trans (show _ ⊢ _ from sep_mono_left (BI.bigSep_of_persistent (Finset.univ : Finset Ring) (records m K))) ?_
  rw [← bigSep_sep']
  refine bigSep_mono fun g _ => ?_
  show iprop(records m K ∗ past d g) ⊢ (|={Set.univ}=> semVal (kcell (d, g)) 0 : sProp 𝕄)
  iintro ⟨HR, H⟩
  iapply (Rounds.cell_close ER (sched m) (Set.mem_univ (K (d, g))) (fun h => h) (R := 1) (sched_later m (kcell (d, g))))
  isplitl [HR]; · iapply (records_inv m K (d, g)); iexact HR
  iexact H

/-- What a device has at the end: its blocks of x and dy unchanged, its block of the result. -/
def Ended : sProp 𝕄 :=
  iprop((bigSep Finset.univ fun g : Ring => semVal (kcell (d, g)) 0) ∗ Rest d ∗ Scratch d ∗ has d xM fullShare (xAt m d) ∗ has d dyM fullShare (dyAt m d) ∗ has d outM fullShare (outAt m d) ∗ owing d 0)

theorem own_rooms (n : ℕ) : Own m d n ⊢ (bigSep Finset.univ fun s : Fin 4 => room d (pM.slice (ownR d s) (fun _ => rfl)) : sProp 𝕄) := by
  unfold Own
  iintro ⟨%w, -, H⟩
  iapply (show (bigSep Finset.univ fun s => has d (pM.slice (ownR d s) (fun _ => rfl)) fullShare (w s) : sProp 𝕄)
    ⊢ bigSep Finset.univ fun s => room d (pM.slice (ownR d s) (fun _ => rfl)) from bigSep_mono fun s _ => has_room d _ _)
  iexact H

set_option maxHeartbeats 1000000 in
theorem step_closing {Q : PUnit.{1} → sProp 𝕄} :
    iprop(records m K ∗ LoopS m d 16 ∗ past d none ∗ bigSep Finset.univ (XFree m d)) ⊢ iprop((Ended m d -∗ Q ⟨⟩) -∗ run d (closing d) Q) := by
  unfold LoopS closing
  iintro ⟨#HR, ⟨Hdy, H16, Hrs, Hown, Hred, Hag, Ho⟩, Hbn, Hx⟩ Hk
  -- the last two reductions
  iapply (step_finish m K d 14 (n := 16) (by decide) (by decide) (o := 16) (by decide)) $$ [Hred Hown Ho]
  · isplitr; · iexact HR
    isplitl [Hred]; · iexact Hred
    isplitl [Hown]; · iexact Hown
    iexact Ho
  iintro ⟨Hred, Hown, Ho⟩
  iapply (step_finish m K d 15 (n := 16) (by decide) (by decide) (o := 16) (by decide)) $$ [Hred Hown Ho]
  · isplitr; · iexact HR
    isplitl [Hred]; · iexact Hred
    isplitl [Hown]; · iexact Hown
    iexact Ho
  iintro ⟨Hred, Hown, Ho⟩
  -- the last four gathers
  iapply (run_forFrom m K d (gather d) (fun g => iprop(AgS m d g ∗ owing d (Due d 16 16))) _ 4 12 (by decide)
    fun c h1 h2 k => step_gatherS m K d c (show c.val + 1 ≤ 16 by omega) (show c.val + 1 ≤ 16 by omega)) $$ [Hag Ho]
  · isplitr; · iexact HR
    isplitl [Hag]; · iexact Hag
    iexact Ho
  iintro ⟨Hag, Ho⟩
  -- the last four sends
  unfold RsS RedS
  icases Hrs with ⟨Hrs, -⟩
  icases Hred with ⟨Hout, -, Hrecv⟩
  iapply (run_forFrom m K d (drain d) (DrainS m d) _ 4 12 (by decide) fun c h1 h2 k => step_drain m K d c h1 k) $$ [Hrs Hout Ho]
  · isplitr; · iexact HR
    unfold DrainS
    isplitl [Hrs]; · iexact Hrs
    isplitl [Hout]; · iexact Hout
    isplitr; · iapply (slotsBelow_zero fun s => room (F := F) d (othV d s)); iempintro
    isplitr; · iapply (slotsBelow_zero (RedFree (F := F) d)); iempintro
    iexact Ho
  iintro H
  ihave H := (Entails.of_eq (show DrainS m d (12 + 4) = iprop(fam 16 16 (RsDone d) (RsFly d) (RsTodo d) ∗ fam 16 16 (OutDone m d) (OutFly m d) (OutTodo d)
    ∗ (slotsBelow 4 fun s => room d (othV d s)) ∗ slotsBelow 4 (RedFree d) ∗ owing d (Due d 16 16)) from rfl)) $$ H
  icases H with ⟨Hrs, Hout, Hoth, Hred, Ho⟩
  -- the gathered chunks
  iapply (run_forFrom m K d (out2Left d) (LandS m d) _ 16 0 (by decide) fun c h1 h2 k => step_land m K d c k) $$ [Hag Ho]
  · isplitr; · iexact HR
    unfold LandS AgS
    isplitl [Hag]; · iexact Hag
    iexact Ho
  iintro H
  ihave H := (Entails.of_eq (show LandS m d (0 + 16) = iprop(fam 16 16 (AgDone m d) (AgFly m d) (AgTodo d) ∗ owing d (Due d 16 16)) from rfl)) $$ H
  icases H with ⟨Hag, Ho⟩
  -- the parts joined
  ihave Hrs := (Entails.of_eq (fam_all (RsDone d) (RsFly d) (RsTodo d))) $$ Hrs
  ihave Hout := (Entails.of_eq (fam_all (OutDone m d) (OutFly m d) (OutTodo d))) $$ Hout
  ihave Hag := (Entails.of_eq (fam_all (AgDone m d) (AgFly m d) (AgTodo d))) $$ Hag
  ihave Hoth := (Entails.of_eq (slotsBelow_four fun s => room (F := F) d (othV d s))) $$ Hoth
  ihave Hred := (Entails.of_eq (slotsBelow_four (RedFree (F := F) d))) $$ Hred
  ihave Ho := (Entails.of_eq (congrArg (owing (F := F) d) (Due_end d))) $$ Ho
  ihave Hrecv := (Entails.of_eq (fam_started (RecvDone m d) (RecvDone m d) (RecvTodo d))) $$ [Hrecv]
  · iexact Hrecv
  ihave Hown := (own_rooms m d 16) $$ Hown
  ihave Hp := (p_join d) $$ [Hoth Hown]
  · isplitl [Hoth]; · iexact Hoth
    iexact Hown
  ihave Hx := (x_join m d) $$ Hx
  icases Hx with ⟨Hx, Hxst, Hxi⟩
  ihave Hdy := (show DyS m d 16 ⊢ (bigSep Finset.univ (DyFree m d) : sProp 𝕄) from by
    unfold DyS
    rw [three, show DyX m d 16 = DyFree m d 1 from dif_neg (by decide), show DyX m d (16 + 1) = DyFree m d 2 from dif_neg (by decide)]
    iintro ⟨H1, H2, H0⟩
    isplitl [H0]; · iexact H0
    isplitl [H1]; · iexact H1
    iexact H2) $$ Hdy
  ihave Hdy := (dy_join m d) $$ Hdy
  icases Hdy with ⟨Hdy, Hdyv, Hdyi⟩
  ihave Hrecv := (show (bigSep Finset.univ (RecvDone m d) : sProp 𝕄) ⊢ iprop((bigSep Finset.univ fun c => past d (some (1, c))) ∗ room d rsM) from by
    unfold RecvDone
    rw [bigSep_sep']
    iintro ⟨Ha, Hb⟩
    isplitl [Ha]; · iexact Ha
    iapply (slots_room d rsM recvR (fun _ _ => rfl) recvR_disjoint recvR_cover fun _ => squeezes_S1x1024x256_S1024x256)
    iapply (show (bigSep Finset.univ fun c => has d (rsV c) fullShare (flat (sent m (ynbr d) c)) : sProp 𝕄) ⊢ bigSep Finset.univ fun c => room d (rsV c) from
      bigSep_mono fun c _ => has_room d _ _)
    iexact Hb) $$ Hrecv
  icases Hrecv with ⟨Hp1, Hrsm⟩
  ihave Hred := (show (bigSep Finset.univ (RedFree d) : sProp 𝕄) ⊢ iprop(room d redM ∗ bigSep Finset.univ fun s => idle d (outSem s)) from by
    unfold RedFree
    rw [bigSep_sep']
    iintro ⟨Ha, Hb⟩
    isplitl [Ha]
    · iapply (slots_room d redM redR (fun _ _ => rfl) redR_disjoint redR_cover fun _ => squeezes_S1x1024x256_S1024x256); iexact Ha
    iexact Hb) $$ Hred
  icases Hred with ⟨Hred, Houti⟩
  ihave Hout := (Entails.of_eq (show (bigSep Finset.univ (OutDone m d) : sProp 𝕄)
    = iprop((bigSep Finset.univ fun c => has d (outV d c) fullShare (redFlat m d c)) ∗ bigSep Finset.univ fun c => past d (some (2, c))) from bigSep_sep' _ _ _)) $$ Hout
  icases Hout with ⟨Hout, Hp2⟩
  ihave Hag := (show (bigSep Finset.univ (AgDone m d) : sProp 𝕄) ⊢ iprop((bigSep Finset.univ fun c => has d (out2V d c) fullShare (redFlat m (xnbr d) c)) ∗ room d agM
      ∗ (bigSep Finset.univ fun c => past d (some (3, c))) ∗ bigSep Finset.univ fun c => idle d (out2Sem c)) from by
    unfold AgDone
    rw [bigSep_sep', bigSep_sep', bigSep_sep']
    iintro ⟨Ha, Hb, Hc⟩
    isplitl [Ha]; · iexact Ha
    isplitl [Hb]
    · iapply (slots_room d agM recvR (fun _ _ => rfl) recvR_disjoint recvR_cover fun _ => squeezes_S1x1024x256_S1024x256); iexact Hb
    iexact Hc) $$ Hag
  icases Hag with ⟨Hout2, Hagm, Hp3, Hout2i⟩
  ihave Hout := (out_join m d) $$ [Hout Hout2]
  · isplitl [Hout]; · iexact Hout
    iexact Hout2
  imod (cells_close m K d) $$ [Hrs Hp1 Hp2 Hp3 Hbn] with Hz
  · isplitr; · iexact HR
    iapply (Entails.of_eq (ring_split fun g => past (F := F) d g).symm)
    isplitl [Hbn]; · iexact Hbn
    isplitl [Hrs]; · iapply (show (bigSep Finset.univ (RsDone d) : sProp 𝕄) ⊢ bigSep Finset.univ fun c => past d (some (0, c)) from BI.Entails.refl _); iexact Hrs
    isplitl [Hp1]; · iexact Hp1
    isplitl [Hp2]; · iexact Hp2
    iexact Hp3
  rw [wp_ret]
  imodintro
  iapply Hk
  unfold Ended Rest Scratch
  isplitl [Hz]; · iexact Hz
  isplitl [Hxi Hdyi Houti Hout2i]
  · isplitl [Hxi]; · iexact Hxi
    isplitl [Hdyi]; · iexact Hdyi
    isplitl [Houti]; · iexact Houti
    iexact Hout2i
  isplitl [H16 Hxst Hdyv Hp Hred Hrsm Hagm]
  · isplitl [H16]; · iapply (has_room d x16M (x16 m d)); iexact H16
    isplitl [Hxst]; · iexact Hxst
    isplitl [Hdyv]; · iexact Hdyv
    isplitl [Hp]; · iexact Hp
    isplitl [Hred]; · iexact Hred
    isplitl [Hrsm]; · iexact Hrsm
    iexact Hagm
  isplitl [Hx]; · iexact Hx
  isplitl [Hdy]; · iexact Hdy
  isplitl [Hout]; · iexact Hout
  iexact Ho

/-- The body of device `d`, from its start to its end. -/
theorem run_prog {Q : PUnit.{1} → sProp 𝕄} :
    iprop(records m K ∗ Tokens d ∗ Scratch d ∗ has d xM fullShare (xAt m d) ∗ has d dyM fullShare (dyAt m d) ∗ room d outM ∗ owing d (Owed d))
      ⊢ iprop((Ended m d -∗ Q ⟨⟩) -∗ run d (prog d) Q) := by
  unfold prog
  iintro ⟨#HR, H⟩ Hk
  iapply (step_setup m K d) $$ [H]
  · isplitr; · iexact HR
    iexact H
  iintro H
  rw [show forFrom (chunk d) 0 (closing d) 16 = chunk (F := F) d 0 (forFrom (chunk d) 1 (closing d) 15) from rfl]
  iapply (step_first m K d) $$ [H]
  · isplitr; · iexact HR
    iexact H
  iintro ⟨H, Hbn, Hx⟩
  iapply (run_forFrom m K d (chunk d) (LoopS m d) _ 15 1 (by decide) fun c h1 h2 k => step_chunk m K d c h1 k) $$ [H]
  · isplitr; · iexact HR
    iexact H
  iintro H
  iapply (step_closing m K d) $$ [H Hbn Hx]
  · isplitr; · iexact HR
    isplitl [H]; · iexact H
    isplitl [Hbn]; · iexact Hbn
    iexact Hx
  iexact Hk

end Cert.Overlap

end
-- ==== Proof.Launch.lean ====
module

public import proofs.«01_k».proof.Proof.Body
public import Idealize.ShloMosaic.Lib.Pipeline.CollectiveSegs

/-! # The launch

The ghost state is minted and dealt to the devices, the body runs on each, and the final memory is read off. -/

@[expose] public section

set_option maxRecDepth 16384

noncomputable section

namespace Cert.Overlap

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat BodyObligation)

variable {F : FTy → Type} [FloatOps F]

local notation "𝕄" => MT nD τ sig Unit (Elt F) ℕ UU ℕ

/-! ## The semaphores of a launch -/

/-- The kernel's own semaphores: those of the copies, and the chunks' cells. -/
abbrev OwnSem : Type := (Fin 2 ⊕ Fin 3 ⊕ Fin 4 ⊕ Fin 16) ⊕ (Fin 4 × Fin 16)

def osem : OwnSem → SemLoc sig
  | .inl (.inl s) => .dma (xSem s)
  | .inl (.inr (.inl s)) => .dma (dySem s)
  | .inl (.inr (.inr (.inl s))) => .dma (outSem s)
  | .inl (.inr (.inr (.inr c))) => .dma (out2Sem c)
  | .inr (k, c) => .dma (chanSem k c)

theorem ownSemFacts : Pipeline.OwnSemFacts cfg0.spec osem := by decide +kernel

section Sems

variable (c : Dev nD)

theorem ownSems0_eq : (Pipeline.ownSems0 (Ix := Unit) (Name := ℕ) (U := UU) (Lvl := ℕ) (Val := Elt F) (τ := τ) osem c : sProp 𝕄)
    = iprop(Rest c ∗ bigSep Finset.univ fun p : Fin 4 × Fin 16 => semVal (kcell (c, some p)) 0) := by
  unfold Pipeline.ownSems0 Rest
  rw [halves_sum, halves_sum, halves_sum, halves_sum]
  rfl

theorem unscopedSems0_eq : (unscopedSems0 c : sProp 𝕄) = semVal (kcell (c, none)) 0 := by
  unfold unscopedSems0; rw [bigSep_eq_bigSepL_of_eq [SemLoc.reg barSem] (by decide) (by decide)]; rfl

/-- A family over the cells is the barrier's and the chunks'. -/
theorem ring_chan (A : Ring → sProp 𝕄) : (bigSep Finset.univ A : sProp 𝕄) = iprop(A none ∗ bigSep Finset.univ fun p : Fin 4 × Fin 16 => A (some p)) := by
  rw [BI.bigSep_univ_equiv ((Equiv.sumComm PUnit.{1} (Fin 4 × Fin 16)).trans (Equiv.optionEquivSumPUnit.{0, 0} (Fin 4 × Fin 16)).symm) A, halves_sum,
    bigSep_univ_of_subsingleton PUnit.unit]
  rfl

theorem sems0_in : iprop(Pipeline.ownSems0 (Ix := Unit) (Name := ℕ) (U := UU) (Lvl := ℕ) (Val := Elt F) (τ := τ) osem c ∗ unscopedSems0 c)
    ⊢ (iprop(Rest c ∗ bigSep Finset.univ fun g : Ring => semVal (kcell (c, g)) 0) : sProp 𝕄) := by
  rw [ownSems0_eq, unscopedSems0_eq, ring_chan]
  iintro ⟨⟨HR, Hs⟩, Hb⟩
  isplitl [HR]; · iexact HR
  isplitl [Hb]; · iexact Hb
  iexact Hs

theorem sems0_out : (iprop(Rest c ∗ bigSep Finset.univ fun g : Ring => semVal (kcell (c, g)) 0) : sProp 𝕄)
    ⊢ iprop(unscopedSems0 c ∗ Pipeline.ownSems0 (Ix := Unit) (Name := ℕ) (U := UU) (Lvl := ℕ) (Val := Elt F) (τ := τ) osem c) := by
  rw [ownSems0_eq, unscopedSems0_eq, ring_chan]
  iintro ⟨HR, Hb, Hs⟩
  isplitl [Hb]; · iexact Hb
  isplitl [HR]; · iexact HR
  iexact Hs

end Sems

/-! ## The ghost state -/

def ringCells : Finset (GSem nD τ sig) := Finset.univ.map ⟨kcell, kcell_injective⟩

/-- A cell's duties: the barrier's two, a chunk's cell's one. -/
abbrev Duty : Type := Bool ⊕ (Fin 4 × Fin 16)
def dutyOf : Duty → Ring × Bool
  | .inl b => (none, b)
  | .inr p => (some p, false)
theorem dutyOf_injective : Function.Injective dutyOf := by
  rintro (a | a) (b | b) h
  · exact congrArg Sum.inl (congrArg Prod.snd h)
  · cases congrArg Prod.fst h
  · cases congrArg Prod.fst h
  · exact congrArg Sum.inr (Option.some.inj (congrArg Prod.fst h))

def tokOf (x : Dev nD × Duty) : GSem nD τ sig × ℕ × Bool := (kcell (x.1, (dutyOf x.2).1), 0, (dutyOf x.2).2)
theorem tokOf_injective : Function.Injective tokOf := fun a b h => by
  have h1 := kcell_injective (congrArg Prod.fst h)
  have h2 : (dutyOf a.2).2 = (dutyOf b.2).2 := congrArg (fun z : GSem nD τ sig × ℕ × Bool => z.2.2) h
  have e1 : a.1 = b.1 := (Prod.mk.inj h1).1
  exact Prod.ext e1 (dutyOf_injective (Prod.ext (show (dutyOf a.2).1 = (dutyOf b.2).1 from (Prod.mk.inj h1).2) h2))
def ringToks : Finset (GSem nD τ sig × ℕ × Bool) := Finset.univ.map ⟨tokOf, tokOf_injective⟩

def u₀ : UU := (initOf (Pipeline.cells cfgs cellOf_inj) (Pipeline.launchToks cfgs cellOf_inj), (initOf ringCells ringToks, 1))

variable (m : (ℓ : Loc nD τ sig) → Buf (Elt F) ℓ)

/-- The duty tokens of device `c`'s own cells. -/
def ownToks (c : Dev nD) : sProp 𝕄 := bigSep Finset.univ fun x : Duty => dutyTok ER (kcell (c, (dutyOf x).1)) 0 (dutyOf x).2
/-- Each cell's position and that it has reached its round. -/
def spots (c : Dev nD) : sProp 𝕄 := bigSep Finset.univ fun g : Ring => iprop(before c g ∗ reached ER (kcell (c, g)) 0)

/-- What is minted for device `c`. -/
def G (c : Dev nD) : sProp 𝕄 := iprop((bigSep Finset.univ fun g : Ring => roundState ER (sched m) (kcell (c, g)) 0) ∗ spots c ∗ ownToks c)

theorem fund_ring : BI.own (ER (initOf ringCells ringToks)) ⊢ (|==> bigSep Finset.univ (G m) : sProp 𝕄) := by
  have hX (Φ : GSem nD τ sig → sProp 𝕄) : bigSep ringCells Φ = bigSep Finset.univ fun c : Dev nD => bigSep Finset.univ fun g : Ring => Φ (kcell (c, g)) := by
    unfold ringCells; rw [bigSep_map, bigSep_univ_prod]; rfl
  have hT : bigSep ringToks (fun x => (dutyTok ER x.1 x.2.1 x.2.2 : sProp 𝕄)) = bigSep Finset.univ fun c : Dev nD => ownToks c := by
    unfold ringToks; rw [bigSep_map, bigSep_univ_prod]; rfl
  iintro HX
  imod (Rounds.fund ER (sched m) ringCells ringToks) $$ HX with ⟨Hst, Hr, Hat, Htok⟩
  imodintro
  ihave Hst := (Entails.of_eq (hX fun g => roundState ER (sched m) g 0)) $$ Hst
  ihave Hat := (Entails.of_eq (hX fun g => atPos ER g 0 ∅ 0)) $$ Hat
  ihave Hr := (Entails.of_eq (hX fun g => reached ER g 0)) $$ Hr
  ihave Htok := (Entails.of_eq hT) $$ Htok
  unfold G spots; simp only [bigSep_sep']
  isplitl [Hst]; · iexact Hst
  isplitl [Hat Hr]
  · isplitl [Hat] <;> iassumption
  iexact Htok

/-- The invariants of device `c`'s cells. -/
theorem core_alloc (c : Dev nD) :
    iprop(Pipeline.ownSems0 (Ix := Unit) (Name := ℕ) (U := UU) (Lvl := ℕ) (Val := Elt F) (τ := τ) osem c ∗ unscopedSems0 c ∗ G m c)
      ⊢ |={Set.univ}=> iprop((bigSep Finset.univ fun g : Ring => iprop(∃ κ : ℕ, cellInv ER (sched m) κ (kcell (c, g)))) ∗ spots c ∗ ownToks c ∗ Rest c) := by
  unfold G
  iintro ⟨Hos, Hus, Hst, Hat, Htok⟩
  ihave Hv := (sems0_in (F := F) c) $$ [Hos Hus]
  · isplitl [Hos] <;> iassumption
  icases Hv with ⟨HR, Hv⟩
  imod (show iprop((bigSep Finset.univ fun g : Ring => semVal (kcell (c, g)) 0) ∗ bigSep Finset.univ fun g : Ring => roundState ER (sched m) (kcell (c, g)) 0)
      ⊢ (|={Set.univ}=> bigSep Finset.univ fun g : Ring => iprop(∃ κ : ℕ, cellInv ER (sched m) κ (kcell (c, g))) : sProp 𝕄) from by
        rw [← bigSep_sep']
        exact (bigSep_mono fun g _ => (Rounds.body_intro ER (sched m) (kcell (c, g))).trans inv_alloc).trans (bigSep_fupd _ _)) $$ [Hv Hst] with Hinv
  · isplitl [Hv] <;> iassumption
  imodintro
  isplitl [Hinv]; · iexact Hinv
  isplitl [Hat]; · iexact Hat
  isplitl [Htok]; · iexact Htok
  iexact HR

/-- The invariants and the rounds reached, without the levels. -/
def cells (K : Dev nD × Ring → ℕ) : sProp 𝕄 :=
  iprop((bigSep Finset.univ fun x : Dev nD × Ring => cellInv ER (sched m) (K x) (kcell x)) ∗ bigSep Finset.univ fun x : Dev nD × Ring => reached ER (kcell x) 0)
instance cells_persistent (K : Dev nD × Ring → ℕ) : BI.Persistent (cells m K) := by unfold cells; infer_instance

/-- The tokens of the duties device `c` pays. -/
def payToks (c : Dev nD) : sProp 𝕄 :=
  iprop(dutyTok ER (kcell (ynbr c, none)) 0 false ∗ dutyTok ER (kcell (xnbr c, none)) 0 true
    ∗ (bigSep Finset.univ fun a => dutyTok ER (kcell (c, some (0, a))) 0 false) ∗ (bigSep Finset.univ fun a => dutyTok ER (kcell (ynbr c, some (1, a))) 0 false)
    ∗ (bigSep Finset.univ fun a => dutyTok ER (kcell (c, some (2, a))) 0 false) ∗ bigSep Finset.univ fun a => dutyTok ER (kcell (xnbr c, some (3, a))) 0 false)

def yE : Dev nD ≃ Dev nD := ⟨ynbr, ynbr, ynbr_ynbr, ynbr_ynbr⟩
def xE : Dev nD ≃ Dev nD := ⟨xnbr, xnbr, xnbr_xnbr, xnbr_xnbr⟩

/-- The tokens go to the neighbours that pay. -/
theorem toks_around : (bigSep Finset.univ fun c : Dev nD => (ownToks c : sProp 𝕄)) ⊢ bigSep Finset.univ fun c : Dev nD => payToks c := by
  have h (c : Dev nD) : (ownToks c : sProp 𝕄) = iprop((dutyTok ER (kcell (c, none)) 0 false ∗ dutyTok ER (kcell (c, none)) 0 true)
      ∗ (bigSep Finset.univ fun a => dutyTok ER (kcell (c, some (0, a))) 0 false) ∗ (bigSep Finset.univ fun a => dutyTok ER (kcell (c, some (1, a))) 0 false)
      ∗ (bigSep Finset.univ fun a => dutyTok ER (kcell (c, some (2, a))) 0 false) ∗ bigSep Finset.univ fun a => dutyTok ER (kcell (c, some (3, a))) 0 false) := by
    unfold ownToks
    rw [halves_sum, bigSep_univ_prod, four]
    exact congrArg (fun X : sProp 𝕄 => iprop(X ∗ _)) (bigSep_univ_eq_bigSepL [false, true] (by decide) (by decide) _)
  rw [bigSep_congr fun c _ => h c]
  unfold payToks
  simp only [bigSep_sep']
  rw [BI.bigSep_univ_equiv yE (fun c : Dev nD => (dutyTok ER (kcell (c, none)) 0 false : sProp 𝕄)),
    BI.bigSep_univ_equiv xE (fun c : Dev nD => (dutyTok ER (kcell (c, none)) 0 true : sProp 𝕄)),
    BI.bigSep_univ_equiv yE (fun c : Dev nD => (bigSep Finset.univ fun a => dutyTok ER (kcell (c, some (1, a))) 0 false : sProp 𝕄)),
    BI.bigSep_univ_equiv xE (fun c : Dev nD => (bigSep Finset.univ fun a => dutyTok ER (kcell (c, some (3, a))) 0 false : sProp 𝕄))]
  iintro ⟨⟨H1, H2⟩, H3, H4, H5, H6⟩
  isplitl [H1]; · iexact H1
  isplitl [H2]; · iexact H2
  isplitl [H3]; · iexact H3
  isplitl [H4]; · iexact H4
  isplitl [H5]; · iexact H5
  iexact H6

/-- What device `c` has of the ghost state once it is shared out. -/
def Held (c : Dev nD) : sProp 𝕄 := iprop((bigSep Finset.univ fun g : Ring => before c g) ∗ payToks c ∗ Rest c)
def G' (c : Dev nD) : sProp 𝕄 := iprop(∃ K, cells m K ∗ Held c)

theorem regroup :
    (bigSep Finset.univ fun c : Dev nD => iprop((bigSep Finset.univ fun g : Ring => iprop(∃ κ : ℕ, cellInv ER (sched m) κ (kcell (c, g)))) ∗ spots c ∗ ownToks c ∗ Rest c) : sProp 𝕄)
      ⊢ bigSep Finset.univ (G' m) := by
  unfold spots
  rw [bigSep_sep', bigSep_sep', bigSep_sep', ← bigSep_univ_prod (fun x : Dev nD × Ring => iprop(∃ κ : ℕ, cellInv ER (sched m) κ (kcell x))),
    bigSep_congr (s := Finset.univ) (fun (c : Dev nD) _ => bigSep_sep' Finset.univ (fun g : Ring => (before c g : sProp 𝕄)) (fun g => reached ER (kcell (c, g)) 0)),
    bigSep_sep', ← bigSep_univ_prod (fun x : Dev nD × Ring => (reached ER (kcell x) 0 : sProp 𝕄))]
  iintro ⟨HI, ⟨Hat, #HR⟩, Htok, Hrest⟩
  ihave HK := (BI.bigSep_exists_pi Finset.univ (fun (x : Dev nD × Ring) (κ : ℕ) => (cellInv ER (sched m) κ (kcell x) : sProp 𝕄))) $$ HI
  icases HK with ⟨%K, #HI⟩
  ihave Htk := (toks_around (F := F)) $$ Htok
  iapply (show iprop(cells m K ∗ bigSep Finset.univ fun c : Dev nD => Held c) ⊢ (bigSep Finset.univ (G' m) : sProp 𝕄) from by
    refine BIBase.Entails.trans (show _ ⊢ _ from sep_mono_left (BI.bigSep_of_persistent (Finset.univ : Finset (Dev nD)) (cells m K))) ?_
    rw [← bigSep_sep']
    refine bigSep_mono fun c _ => ?_
    show iprop(cells m K ∗ Held c) ⊢ G' m c
    unfold G'
    iintro H
    iexists K
    iexact H)
  isplitr
  · unfold cells; isplitl; · iexact HI
    iexact HR
  unfold Held
  rw [bigSep_sep', bigSep_sep']
  isplitl [Hat]; · iexact Hat
  isplitl [Htk]; · iexact Htk
  iexact Hrest

theorem glob : (bigSep Finset.univ fun c => iprop(Pipeline.ownSems0 (Ix := Unit) (Name := ℕ) (U := UU) (Lvl := ℕ) (Val := Elt F) (τ := τ) osem c ∗ unscopedSems0 c ∗ G m c) : sProp 𝕄)
    ⊢ |={Set.univ}=> bigSep Finset.univ (G' m) :=
  ((bigSep_mono fun c _ => core_alloc m c).trans (bigSep_fupd _ _)).trans (BI.fupd_mono (regroup m))

/-! ## The credit of the launch -/

/-- What the devices owe a cell together, each owing its neighbour. -/
theorem owed_around (e : Dev nD ≃ Dev nD) (g g' : Ring) (c : Dev nD) (n : ℕ) :
    (∑ d : Dev nD, tallyAt (kcell (e d, g')) () n (kcell (c, g)) () : ℕ) = if g' = g then n else 0 := by
  rw [Equiv.sum_comp e fun d => tallyAt (kcell (d, g')) () n (kcell (c, g)) ()]
  simp only [tallyAt_apply, and_true]
  by_cases h : g' = g
  · subst h
    rw [if_pos rfl, Finset.sum_eq_single c (fun d _ hd => if_neg fun h' => hd (congrArg Prod.fst (kcell_injective h')).symm) (fun h => absurd (Finset.mem_univ _) h), if_pos rfl]
  · rw [if_neg h]
    exact Finset.sum_eq_zero fun d _ => if_neg fun h' => h (congrArg Prod.snd (kcell_injective h')).symm

/-- The credit at a cell. -/
def creditAt (g : Ring) : ℕ :=
  (∑ a : Fin 16, if some (1, a) = g then N else 0) + (∑ a : Fin 16, if some (3, a) = g then N else 0) + (if none = g then 1 else 0) + (if none = g then 1 else 0)

theorem owed_sum (c : Dev nD) (g : Ring) : (∑ d : Dev nD, Owed d (kcell (c, g)) () : ℕ) = creditAt g := by
  unfold Owed Due creditAt
  rw [Finset.sum_congr rfl fun d _ => by rw [due_start, due_start]]
  simp only [Pi.add_apply, Finsupp.add_apply, Finset.sum_apply, Finsupp.finset_sum_apply, Finset.sum_add_distrib]
  rw [Finset.sum_comm, Finset.sum_comm (f := fun d a => tallyAt (kcell (xnbr d, some (3, a))) () N (kcell (c, g)) ())]
  exact congr (congrArg HAdd.hAdd (congr (congrArg HAdd.hAdd (congr (congrArg HAdd.hAdd (Finset.sum_congr rfl fun a _ => owed_around yE g (some (1, a)) c N))
    (Finset.sum_congr rfl fun a _ => owed_around xE g (some (3, a)) c N))) (owed_around yE g none c 1))) (owed_around xE g none c 1)

theorem creditAt_none : creditAt none = 2 := by
  unfold creditAt; simp
theorem creditAt_rs (a : Fin 16) : creditAt (some (1, a)) = N := by
  unfold creditAt; simp
theorem creditAt_ag (a : Fin 16) : creditAt (some (3, a)) = N := by
  unfold creditAt; simp

theorem launch_credit (c : Dev nD) (g : Ring) :
    tallyOn (kcell (c, g)) (launchCredit (Pipeline.owing Owed) 0 (kcell (c, g))) = (tallyAt (kcell (c, g)) () (creditAt g) : CellTallies nD τ sig Unit) := by
  unfold tallyAt; refine congrArg _ (Finsupp.ext fun u => ?_); cases u
  rw [Pipeline.launchCredit_owing, Finsupp.single_eq_same, owed_sum]

theorem creds (c : Dev nD) :
    (Pipeline.launchCred Owed c : sProp 𝕄) ⊢ iprop(coming c none 2 ∗ (bigSep Finset.univ fun a => coming c (some (1, a)) N) ∗ bigSep Finset.univ fun a => coming c (some (3, a)) N) := by
  have h : (Pipeline.launchCred Owed c : sProp 𝕄) ⊢ bigSep Finset.univ fun g : Ring => coming c g (creditAt g) := by
    unfold Pipeline.launchCred
    refine BIBase.Entails.trans (show _ ⊢ _ from bigSep_subset (Finset.subset_univ (Finset.univ.map ⟨semOf, semOf_injective⟩))) ?_
    rw [bigSep_map]
    exact bigSep_mono fun g _ => show (cred _ : sProp 𝕄) ⊢ coming c g (creditAt g) from Entails.of_eq (congrArg cred (launch_credit c g))
  refine h.trans ?_
  rw [ring_split]
  simp only [creditAt_none, creditAt_rs, creditAt_ag]
  iintro ⟨H1, -, H2, -, H3⟩
  isplitl [H1]; · iexact H1
  isplitl [H2]; · iexact H2
  iexact H3

/-! ## The device's run -/

/-- Before the body: the shared records, the tokens, the arrays, the scratch. -/
def Start (c : Dev nD) : sProp 𝕄 :=
  iprop((∃ K, records m K) ∗ Tokens c ∗ has c xM fullShare (xAt m c) ∗ has c dyM fullShare (dyAt m c) ∗ room c outM)
/-- After it. -/
def Final (c : Dev nD) : sProp 𝕄 :=
  iprop((bigSep Finset.univ fun g : Ring => semVal (kcell (c, g)) 0) ∗ Rest c ∗ Scratch c ∗ has c xM fullShare (xAt m c) ∗ has c dyM fullShare (dyAt m c) ∗ has c outM fullShare (outAt m c))

def dats (_ : Fin 1) (c : Dev nD) : Dat τ (Elt F) Unit ℕ UU ℕ cfg0 c where
  A w := w.elim0
  after w _ := w.elim0
  Φ t := match t with
    | ⟨0, _⟩ => iprop(Start m c ∗ Scratch c)
    | ⟨_ + 1, _⟩ => Final m c
  q _ := fullShare
  owed t := match t with
    | ⟨0, _⟩ => Owed c
    | ⟨_ + 1, _⟩ => 0

theorem run_device (c : Dev nD) (W : Waits sig Unit) {Q : PUnit.{1} → sProp 𝕄} :
    iprop(Start m c ∗ Scratch c ∗ owing c (Owed c)) ⊢ iprop((iprop(Final m c ∗ owing c 0) -∗ Q ⟨⟩) -∗ run c (Prog.op .deviceId prog) Q) := by
  unfold Start Final
  iintro ⟨⟨⟨%K, #HR⟩, Ht, Hx, Hdy, Hout⟩, Hs, Ho⟩ Hk
  simp only [wp_deviceId]
  iapply (run_prog m K c) $$ [Ht Hx Hdy Hout Hs Ho]
  · isplitr; · iexact HR
    isplitl [Ht]; · iexact Ht
    isplitl [Hs]; · iexact Hs
    isplitl [Hx]; · iexact Hx
    isplitl [Hdy]; · iexact Hdy
    isplitl [Hout]; · iexact Hout
    iexact Ho
  unfold Ended
  iintro ⟨H1, H2, H3, H4, H5, H6, H7⟩
  iapply Hk
  isplitr [H7]
  · isplitl [H1]; · iexact H1
    isplitl [H2]; · iexact H2
    isplitl [H3]; · iexact H3
    isplitl [H4]; · iexact H4
    isplitl [H5]; · iexact H5
    iexact H6
  iexact H7

theorem body_obligation (c : Dev nD) : BodyObligation (dats (F := F) m 0 c) (defs₀ (F := F)) 𝒱₀ () Set.univ := fun t => by
  rw [show t = t0_0 from fin_N0 t]
  rw [show defs₀ (F := F) .tc cfg0.body (cfg0.bodyArgs t0_0 (cfg0.slots t0_0)) = Prog.op .deviceId prog from body_eq t0_0,
    show (dats m 0 c).Φ t0_0.castSucc = iprop(Start m c ∗ Scratch c) from rfl, show (dats m 0 c).Φ t0_0.succ = Final m c from rfl]
  unfold Dat.owesAt Pipeline.owesWithin
  rw [show (dats m 0 c).owed t0_0.castSucc = Owed c from rfl, show (dats m 0 c).owed t0_0.succ = 0 from rfl]
  iintro ⟨⟨HS, Hscr⟩, ⟨%W, -, Ho⟩, Hw⟩
  iapply (run_device m c W) $$ [HS Hscr Ho]
  · isplitl [HS]; · iexact HS
    isplitl [Hscr]; · iexact Hscr
    iexists W; iexact Ho
  iintro ⟨HF, ⟨%W', Ho⟩⟩
  isplitl [HF]; · iexact HF
  isplitl [Ho]
  · iexists W'
    isplitr; · ipureintro; exact fun _ _ => Or.inl trivial
    iexact Ho
  iexact Hw

/-! ## The side conditions of the launch -/

variable (ρ : Dev nD → PrngReg)

theorem has_whole (c : Dev nD) (b : Ref sig .tc) (f : Buf (Elt F) ((c : Thread nD τ).loc b)) :
    (has c (Memref.whole b) fullShare f : sProp 𝕄) = (((c : Thread nD τ).loc b) ↦{fullShare} f) := owns_whole _ _ _ _
theorem room_whole (c : Dev nD) (b : Ref sig .tc) : (room c (Memref.whole b) : sProp 𝕄) = iprop(∃ f, ((c : Thread nD τ).loc b) ↦{fullShare} f) :=
  congrArg BIBase.exists (funext fun f => has_whole c b f)

theorem start_intro (c : Dev nD) :
    iprop(Pipeline.unscopedRestP Pipeline.Prefetch.none cfg0.spec c (fun b => m ((c : Thread nD τ).loc b)) ∗ levAts L lv
        ∗ Pipeline.launchCred Owed c ∗ prngReg c (ρ c) ∗ G' m c)
      ⊢ |={Set.univ}=> iprop(Start m c ∗ emp) := by
  rw [Pipeline.unscopedRestP_none, unscopedRest0_eq]
  iintro ⟨⟨Hx, Hdy, Hout⟩, Hlev, Hcr, -, HG⟩
  ihave Hc := (creds (F := F) c) $$ Hcr
  icases Hc with ⟨Hcn, Hc1, Hc3⟩
  unfold G'
  icases HG with ⟨%K, HC, HH⟩
  unfold Held payToks Rest
  icases HH with ⟨Hb, ⟨Ht1, Ht2, Ht3, Ht4, Ht5, Ht6⟩, Hr1, Hr2, Hr3, Hr4⟩
  ihave Hb := (Entails.of_eq (ring_split fun g => before (F := F) c g)) $$ Hb
  icases Hb with ⟨Hbn, Hb0, Hb1, Hb2, Hb3⟩
  imodintro
  unfold Start
  isplitl
  · isplitl [HC Hlev]
    · iexists K
      unfold cells records
      icases HC with ⟨HC1, HC2⟩
      isplitl [HC1]; · iexact HC1
      isplitl [HC2]; · iexact HC2
      iexact Hlev
    isplitl [Hcn Hc1 Hc3 Hbn Hb0 Hb1 Hb2 Hb3 Ht1 Ht2 Ht3 Ht4 Ht5 Ht6 Hr1 Hr2 Hr3 Hr4]
    · unfold Tokens RsTok OutTok RecvTodo AgTok
      simp only [bigSep_sep']
      isplitl [Ht3 Ht4 Hb0]
      · isplitl [Ht3]; · iexact Ht3
        isplitl [Ht4]; · iexact Ht4
        iexact Hb0
      isplitl [Ht5 Ht6 Hb2]
      · isplitl [Ht5]; · iexact Ht5
        isplitl [Ht6]; · iexact Ht6
        iexact Hb2
      isplitl [Hc1 Hb1]
      · isplitl [Hc1]; · iexact Hc1
        iexact Hb1
      isplitl [Hc3 Hb3 Hr4]
      · isplitl [Hc3]; · iexact Hc3
        isplitl [Hb3]; · iexact Hb3
        iexact Hr4
      isplitl [Ht1]; · iexact Ht1
      isplitl [Ht2]; · iexact Ht2
      isplitl [Hcn]; · iexact Hcn
      isplitl [Hbn]; · iexact Hbn
      isplitl [Hr1]; · iexact Hr1
      isplitl [Hr2]; · iexact Hr2
      iexact Hr3
    isplitl [Hx]; · iapply (Entails.of_eq (has_whole c main_arg0 (xAt m c)).symm); iexact Hx
    isplitl [Hdy]; · iapply (Entails.of_eq (has_whole c main_arg1 (dyAt m c)).symm); iexact Hdy
    iexists (m ((c : Thread nD τ).loc main_v1)); iapply (Entails.of_eq (has_whole c main_v1 _).symm); iexact Hout
  · iempintro

theorem scratch_eq (c : Dev nD) : (Pipeline.scopedRest cfg0.spec c : sProp 𝕄) = iprop(room c x16M ∗ room c xstM ∗ room c dyvM ∗ room c pM ∗ room c redM ∗ room c rsM ∗ room c agM) := by
  rw [scopedRest0_eq]
  rw [show (room c x16M : sProp 𝕄) = _ from room_whole c cc0_scratch0, show (room c xstM : sProp 𝕄) = _ from room_whole c cc0_scratch1,
    show (room c dyvM : sProp 𝕄) = _ from room_whole c cc0_scratch2, show (room c pM : sProp 𝕄) = _ from room_whole c cc0_scratch3,
    show (room c redM : sProp 𝕄) = _ from room_whole c cc0_scratch4, show (room c rsM : sProp 𝕄) = _ from room_whole c cc0_scratch5,
    show (room c agM : sProp 𝕄) = _ from room_whole c cc0_scratch6]

theorem phi0_intro (c : Dev nD) :
    iprop(Start m c ∗ Pipeline.prefHeld Pipeline.Prefetch.none c (fun _ => fullShare.right) (fun k => k.elim0) ∗ Pipeline.scopedRest cfg0.spec c)
      ⊢ (dats m 0 c).Φ 0 := by
  rw [show (dats m 0 c).Φ 0 = iprop(Start m c ∗ Scratch c) from rfl, scratch_eq]
  unfold Scratch
  iintro ⟨Hs, -, Hr⟩
  isplitl [Hs]; · iexact Hs
  iexact Hr

/-- What is read off at the end: the barrier's semaphore and the arrays. -/
def Result (c : Dev nD) : sProp 𝕄 :=
  iprop(unscopedSems0 c ∗ has c xM fullShare (xAt m c) ∗ has c dyM fullShare (dyAt m c) ∗ has c outM fullShare (outAt m c))

theorem phi1_exit (c : Dev nD) :
    (dats m 0 c).Φ (Fin.last cfg0.N) ⊢ iprop(Result m c ∗ Pipeline.ownSems0 osem c ∗ Pipeline.scopedRest cfg0.spec c) := by
  rw [show (dats m 0 c).Φ (Fin.last cfg0.N) = Final m c from rfl, scratch_eq]
  unfold Final Scratch Result
  iintro ⟨Hz, HR, Hs, Hx, Hdy, Hout⟩
  ihave Hv := (sems0_out (F := F) c) $$ [Hz HR]
  · isplitl [HR] <;> iassumption
  icases Hv with ⟨Hu, Hv⟩
  isplitl [Hu Hx Hdy Hout]
  · isplitl [Hu]; · iexact Hu
    isplitl [Hx]; · iexact Hx
    isplitl [Hdy]; · iexact Hdy
    iexact Hout
  isplitl [Hv]; · iexact Hv
  iexact Hs

/-- The arrays of device `c` after the run. -/
def ends (c : Dev nD) (s : MemSt nD τ sig (Elt F)) : Prop :=
  s.mem ((c : Thread nD τ).loc main_arg0) = m ((c : Thread nD τ).loc main_arg0) ∧ s.mem ((c : Thread nD τ).loc main_arg1) = m ((c : Thread nD τ).loc main_arg1)
    ∧ s.mem ((c : Thread nD τ).loc main_v1) = outAt m c

theorem result_read (c : Dev nD) (s' : Phys nD τ sig (Elt F)) :
    iprop(Result m c ∗ emp ∗ SI s') ⊢ |={Set.univ}=> iprop(⌜ends m c s'.mem ∧ ∀ sm : SemLoc sig, sm.isScoped .tc = false → s'.mem.sem ((c.tc : Thread nD τ), sm) = 0⌝ ∗ SI s' : sProp 𝕄) := by
  unfold Result
  rw [show (has c xM fullShare (xAt m c) : sProp 𝕄) = _ from has_whole c main_arg0 (xAt m c), show (has c dyM fullShare (dyAt m c) : sProp 𝕄) = _ from has_whole c main_arg1 (dyAt m c),
    show (has c outM fullShare (outAt m c) : sProp 𝕄) = _ from has_whole c main_v1 (outAt m c)]
  iintro ⟨⟨Hu, Hx, Hdy, Hout⟩, -, HSI⟩
  ihave %hx := (SI_pointsTo_agree) $$ [HSI Hx]
  · isplitl [HSI] <;> iassumption
  ihave %hdy := (SI_pointsTo_agree) $$ [HSI Hdy]
  · isplitl [HSI] <;> iassumption
  ihave %hout := (SI_pointsTo_agree) $$ [HSI Hout]
  · isplitl [HSI] <;> iassumption
  imod (Pipeline.unscopedSems0_read (X := unscopedSems0 c) (c := c) fupd_intro s') $$ [Hu HSI] with ⟨%hs, HSI⟩
  · isplitl [Hu] <;> iassumption
  imodintro
  isplitr
  · ipureintro
    exact ⟨⟨Buf.eq_of_forall_mem_univ hx, Buf.eq_of_forall_mem_univ hdy, Buf.eq_of_forall_mem_univ hout⟩, hs⟩
  iexact HSI

theorem waits (c : Dev nD) : (levAts L lv : sProp 𝕄) ⊢ Pipeline.cellsWaits cfgs (dats m) () 0 c :=
  Pipeline.cellsWaits_intro cfgs (dats m) () 0 c fun w s t => w.elim0

/-! ## The run -/

theorem main_eq (c : Dev nD) : main (F := F) c = .op (.customCall (Pipeline.entry 0) ()) fun _ => .ret ⟨⟩ := rfl

set_option maxRecDepth 100000 in
/-- From any memory with zero counters, every execution of the four devices ends, with x and dy unchanged, every device's
    block of the result at the named contents and every counter at zero. -/
theorem run_main : θ_run defs (onTc (τ := τ) (main (F := F))) ⟨m, fun _ => 0, ρ⟩ (fun r => (∀ c, ends m c r.2) ∧ r.2.sem = fun _ => 0) :=
  Pipeline.θ_run_region_owing_glob_pf (fun p => (cfgs p).toPCfg) (fun p => (cfgs p).toPCfg_adm) (dats m) () cellOf_inj (0 : Fin 1)
    winFacts0.to₀ ownSemFacts (Pipeline.PreFacts.none _) EP defs₀ 𝒱₀ m ρ main
    (hmain := main_eq)
    (hbody := body_obligation m) (hne := fun w => w.elim0) (harr := arr_whole0) (hstage := stage_whole0) (hshare := fun c w => w.elim0)
    (hdistinct := winFacts0.arr_inj)
    (O₀ := Owed) (howed₀ := fun _ => rfl) (howedN := fun _ => rfl)
    (L := L) (lv := lv) (hL := L_of_ne) (hwaits := waits m)
    (G := G m) (G' := G' m) (u₀ := u₀)
    (hu₀ := by
      unfold u₀
      iintro Hu
      ihave H := (ownU_pair _ _) $$ Hu
      icases H with ⟨HP, HX⟩
      ihave HX := (own_pair_emb _ _ _) $$ HX
      icases HX with ⟨HX, -⟩
      imod (fund_ring m) $$ HX with HG
      imodintro
      isplitl [HP] <;> iassumption)
    (hglob := glob m)
    (hA := fun _ w => w.elim0) (hpf := fun _ k => k.elim0)
    (X := Start m) (Y := Result m) (Z := fun _ => iprop(emp))
    (hX := start_intro m ρ) (hin := phi0_intro m) (hout := phi1_exit m)
    (QY := fun c s => ends m c s ∧ ∀ sm : SemLoc sig, sm.isScoped .tc = false → s.sem ((c.tc : Thread nD τ), sm) = 0)
    (hY := result_read m)
    (hQ := fun _ h hs => ⟨fun c => (h c).2.2.1, sem_eq_zero hs fun c => (h c).2.2.2⟩)

end Cert.Overlap

end
-- ==== Proof.Value.lean ====
module

public import proofs.«01_k».proof.Defs
public import proofs.«01_k».proof.Proof.Contents
public import proofs.«01_k».proof.Proof.Gen.ReferenceIdeal
public import Idealize.ShloMosaic.Lib.MemrefSat
public import Idealize.ShloMosaic.Lib.Pointwise
public import Idealize.ShloMosaic.Lib.Layout

/-! # What the kernel computes

Over the extended reals, the contents that the run leaves in a device's result are that device's block of x^T dy: the
narrowing casts are identities, each device's product is a sum over its own half of the contracted rows, and the two
halves that the reduction adds are the whole sum. -/

@[expose] public section

set_option maxRecDepth 16384

noncomputable section

namespace Cert.Overlap

open Cert.KernelIdeal Cert.KernelIdeal.Gen

open Idealize.ShloMosaic
open Idealize.ShloMosaic.TcCoe

variable (m : (ℓ : Loc nD τ sig) → Buf (Elt Ideal) ℓ) (d : Dev nD)

/-- The column of x, and row of x^T dy, at which row `r` of the device's block of the result lies. -/
def outRow (r : Fin 1024) : Fin 2048 := ⟨1024 * (d.val % 2) + r.val, by have := r.isLt; omega⟩
/-- The column at which lane `l` of chunk `c` of mesh row `h` lies. -/
def outCol (h : Fin 2) (c : Fin 16) (l : Fin 256) : Fin 8192 :=
  ⟨4096 * h.val + 256 * c.val + l.val, by have := h.isLt; have := c.isLt; have := l.isLt; omega⟩
/-- The mesh row of a device. -/
def meshRow : Fin 2 := ⟨d.val / 2, by have : d.val < 4 := d.isLt; omega⟩

/-- Narrowing is the identity, so the resident copy is x itself. -/
theorem x16_eq : x16 m d = xAt m d := by
  refine Rect.ext_of_cover rowsR rowsR_cover fun i j => ?_
  refine (Rect.glue_emb rowsR rowsR_cover rowsR_disjoint _ i j).trans ?_
  idx_vars j
  pointwise [k0_pay1, xTile, Shape.reshapeEquiv_symm]
  refine congrArg (xAt m d) (funext fun a => Fin.ext ?_)
  fin_cases a
  · show 512 * i.val + j0.val = 512 * i.val + 1 * j0.val
    omega
  · show j1.val = 0 + 1 * j1.val
    omega

/-- A product of the kernel at an index: the sum over the device's rows. -/
theorem prod_apply (v : Vec Ideal S1x2048x256 .f32) (a : Vec Ideal S2048x1024 .bf16) (r : Fin 1024) (l : Fin 256) :
    k0_pay11 v a (ix3 0 r l) = ∑ k : Fin 2048, a (ix2 k r) * v (ix3 0 k l) := by
  pointwise [k0_pay11, k0_pay10]

/-- A chunk of dy at an index. -/
theorem dyTile_apply (c : Fin 16) (k : Fin 2048) (l : Fin 256) :
    dyTile m d c (ix3 0 k l) = dyAt m d (ix2 k (outCol (meshRow d) c l)) := by
  refine congrArg (dyAt m d) (funext fun a => Fin.ext ?_)
  rw [Shape.reshapeEquiv_symm]
  have e : Shape.reshapeEquiv squeezes_S1x2048x256_S2048x256.numel_eq.symm (ix3 0 k l) = ix2 k l := by pointwise
  rw [e]
  show k0_off1 d (BitVec.ofNat 32 (256 * c.val)) a + 1 * (ix2 k l a).val = _
  rw [k0_off1_eq]
  fin_cases a
  · show 0 + 1 * k.val = k.val
    omega
  · show 4096 * (d.val / 2) + 256 * c.val + 1 * l.val = 4096 * (d.val / 2) + 256 * c.val + l.val
    omega

/-- Device `e`'s half of an element of x^T dy: the sum over the rows that it holds. -/
def half (i : Fin 2048) (j : Fin 8192) : EReal := ∑ k : Fin 2048, (xAt m d (ix2 k i) : EReal) * dyAt m d (ix2 k j)

/-- What a device keeps of a chunk is its half of the block that it reduces. -/
theorem kept_apply (c : Fin 16) (r : Fin 1024) (l : Fin 256) :
    kept m d c (ix3 0 r l) = half m d (outRow d r) (outCol (meshRow d) c l) := by
  refine (prod_apply _ _ r l).trans (Finset.sum_congr rfl fun k _ => ?_)
  rw [dyTile_apply, x16_eq]
  congr 2
  funext a
  refine Fin.ext ?_
  show k0_off5 d a + 1 * (ix2 k r a).val = _
  rw [k0_off5_eq]
  fin_cases a
  · show 0 + 1 * k.val = k.val
    omega
  · show 1024 * (d.val % 2) + 1 * r.val = 1024 * (d.val % 2) + r.val
    omega

theorem ynbr_mod (d : Dev nD) : (ynbr d).val % 2 = 1 - d.val % 2 := by revert d; decide +kernel
theorem ynbr_row (d : Dev nD) : meshRow (ynbr d) = meshRow d := by revert d; decide +kernel
theorem xnbr_mod (d : Dev nD) : (xnbr d).val % 2 = d.val % 2 := by revert d; decide +kernel
theorem xnbr_div (d : Dev nD) : (xnbr d).val / 2 = 1 - d.val / 2 := by revert d; decide +kernel

/-- What a device sends of a chunk is its half of the block that its partner reduces. -/
theorem sent_apply (c : Fin 16) (r : Fin 1024) (l : Fin 256) :
    sent m (ynbr d) c (ix3 0 r l) = half m (ynbr d) (outRow d r) (outCol (meshRow d) c l) := by
  refine (prod_apply _ _ r l).trans (Finset.sum_congr rfl fun k _ => ?_)
  rw [dyTile_apply, x16_eq, ynbr_row]
  congr 2
  funext a
  refine Fin.ext ?_
  show k0_off2 (ynbr d) a + 1 * (ix2 k r a).val = _
  rw [k0_off2_eq, ynbr_mod]
  have hd := Nat.mod_two_eq_zero_or_one d.val
  fin_cases a
  · show 0 + 1 * k.val = k.val
    omega
  · show 1024 - 1024 * (1 - d.val % 2) + 1 * r.val = 1024 * (d.val % 2) + r.val
    omega

/-- A reduced chunk is the sum of the two devices' halves. -/
theorem redFlat_apply (c : Fin 16) (r : Fin 1024) (l : Fin 256) :
    redFlat m d c (ix2 r l)
      = half m d (outRow d r) (outCol (meshRow d) c l) + half m (ynbr d) (outRow d r) (outCol (meshRow d) c l) := by
  rw [← kept_apply, ← sent_apply]
  pointwise [redFlat, red, k0_pay43, k0_pay42]

section Whole

variable (X : (⟨2, ![4096, 2048]⟩ : Shape).Idx → EReal) (Y : (⟨2, ![4096, 8192]⟩ : Shape).Idx → EReal)

/-- x^T dy, an element. -/
def prod (i : Fin 2048) (j : Fin 8192) : EReal := ∑ k : Fin 4096, X (ix2 k i) * Y (ix2 k j)

/-- The block that the device's mesh column picks. -/
theorem block_row (d : Dev nD) : Layout.meshLin [2, 2] d.val [1] = d.val % 2 := by revert d; decide +kernel

/-- The devices' arguments are the blocks of the whole arrays that their mesh columns pick. -/
def Cut : Prop := ∀ d : Dev nD,
  xAt m d = Layout.blockN ⟨2, ![2048, 2048]⟩ ⟨2, ![4096, 2048]⟩ (Layout.meshBlock [2, 2] ![[1], []] d) X
  ∧ dyAt m d = Layout.blockN ⟨2, ![2048, 8192]⟩ ⟨2, ![4096, 8192]⟩ (Layout.meshBlock [2, 2] ![[1], []] d) Y

variable (hXY : Cut m X Y)

include hXY

/-- A device's half, over the whole arrays. -/
theorem half_eq (i : Fin 2048) (j : Fin 8192) :
    half m d i j = ∑ k : Fin 2048, X (ix2 ⟨2048 * (d.val % 2) + k.val, by have := k.isLt; omega⟩ i) * Y (ix2 ⟨2048 * (d.val % 2) + k.val, by have := k.isLt; omega⟩ j) := by
  refine Finset.sum_congr rfl fun k _ => ?_
  rw [(hXY d).1, (hXY d).2]
  refine congrArg₂ (fun a b : EReal => a * b) (congrArg X (funext fun a => Fin.ext ?_)) (congrArg Y (funext fun a => Fin.ext ?_))
  all_goals
    rw [Layout.TilesN.idx_val]
    fin_cases a
  · show Layout.meshLin [2, 2] d.val [1] * 2048 + k.val = 2048 * (d.val % 2) + k.val
    rw [block_row]; omega
  · show 0 * 2048 + i.val = i.val
    omega
  · show Layout.meshLin [2, 2] d.val [1] * 2048 + k.val = 2048 * (d.val % 2) + k.val
    rw [block_row]; omega
  · show 0 * 8192 + j.val = j.val
    omega

/-- The two halves that a reduction adds are the whole sum, in either order. -/
theorem halves (i : Fin 2048) (j : Fin 8192) : half m d i j + half m (ynbr d) i j = prod X Y i j := by
  have e : prod X Y i j = (∑ k : Fin 2048, X (ix2 ⟨k.val, by have := k.isLt; omega⟩ i) * Y (ix2 ⟨k.val, by have := k.isLt; omega⟩ j))
      + ∑ k : Fin 2048, X (ix2 ⟨2048 + k.val, by have := k.isLt; omega⟩ i) * Y (ix2 ⟨2048 + k.val, by have := k.isLt; omega⟩ j) :=
    Fin.sum_univ_add (a := 2048) (b := 2048) _
  rw [half_eq m d X Y hXY, half_eq m (ynbr d) X Y hXY, e]
  have hn : k0_dev2 d % 2 = 1 - d.val % 2 := ynbr_mod d
  rcases Nat.mod_two_eq_zero_or_one d.val with h | h
  · simp only [hn, h, Nat.mul_zero, Nat.zero_add, Nat.sub_zero, Nat.mul_one]
  · simp only [hn, h, Nat.mul_zero, Nat.zero_add, Nat.sub_self, Nat.mul_one]
    exact add_comm _ _

/-- Each device ends with its block of x^T dy. -/
theorem outAt_eq (V : (⟨2, ![2048, 8192]⟩ : Shape).Idx → EReal) (hV : ∀ i j, V (ix2 i j) = prod X Y i j) :
    outAt m d = Layout.blockN ⟨2, ![1024, 8192]⟩ ⟨2, ![2048, 8192]⟩ (Layout.meshBlock [2, 2] ![[1], []] d) V := by
  have hd : d.val < 4 := d.isLt
  refine Rect.ext_of_cover (pieceR d) (pieceR_cover d) fun t y => ?_
  refine (Rect.glue_emb (pieceR d) (pieceR_cover d) (pieceR_disjoint d) (piece m d) t y).trans ?_
  have at_ : ∀ (e : Dev nD) (c : Fin 16) (r : Fin 1024) (l : Fin 256), redFlat m e c (ix2 r l) = V (ix2 (outRow e r) (outCol (meshRow e) c l)) :=
    fun e c r l => by rw [redFlat_apply, halves m e X Y hXY, hV]
  have key : ∀ (e : Dev nD) (c : Fin 16) (y : S1024x256.Idx), e.val % 2 = d.val % 2 → offOut d t 1 = 4096 * (e.val / 2) + 256 * c.val →
      redFlat m e c y = (Layout.blockN ⟨2, ![1024, 8192]⟩ ⟨2, ![2048, 8192]⟩ (Layout.meshBlock [2, 2] ![[1], []] d) V) ((pieceR d t).emb y) := by
    intro e c y he ho
    idx_vars y
    rw [at_]
    refine congrArg V (funext fun a => Fin.ext ?_)
    rw [Layout.TilesN.idx_val]
    fin_cases a
    · show 1024 * (e.val % 2) + y0.val = Layout.meshLin [2, 2] d.val [1] * 1024 + (offOut d t 0 + 1 * y0.val)
      rw [block_row, he, offOut_eq]
      show 1024 * (d.val % 2) + y0.val = d.val % 2 * 1024 + (0 + 1 * y0.val)
      omega
    · show 4096 * (e.val / 2) + 256 * c.val + y1.val = 0 * 8192 + (offOut d t 1 + 1 * y1.val)
      rw [ho]; omega
  rcases t with c | c
  · exact key d c y rfl (by rw [offOut_eq]; rfl)
  · refine key (xnbr d) c y (xnbr_mod d) ?_
    rw [offOut_eq, xnbr_div]
    show (256 * c.val + 4096) - 4096 * (d.val / 2) = 4096 * (1 - d.val / 2) + 256 * c.val
    omega

end Whole

/-- The reference at an index: the sum over the whole contracted axis. -/
theorem reference_apply (X : FVec Ideal Cert.ReferenceIdeal.S4096x2048 .f32) (Y : FVec Ideal Cert.ReferenceIdeal.S4096x8192 .f32) (i : Fin 2048) (j : Fin 8192) :
    (truncf .bf16 (Host.dotGeneral (φ₁ := .f32) (φ₂ := .f32) Cert.ReferenceIdeal.dot_S2048x4096_S4096x8192_S2048x8192_1_0_0_1_n_n none
      (transpose Cert.ReferenceIdeal.S2048x4096 [1, 0] X Cert.ReferenceIdeal.Facts₀.transposes_S4096x2048_S2048x4096_1_0) Y)
      Cert.ReferenceIdeal.Facts₀.bitsLt_bf16_f32 : FVec Ideal Cert.ReferenceIdeal.S2048x8192 .bf16) (ix2 i j) = prod X Y i j := by
  pointwise [prod]

end Cert.Overlap

end
-- ==== Proof.lean ====
/-
  The claims about the kernel and its reference. The kernel's run is proved once, over any floats (Launch.lean); the two
  frames of the kernel are that run with its values dropped, and the value claim is its instance over the extended
  reals, where Value.lean reads the contents it leaves as blocks of x^T dy.
-/
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Run
public import proofs.«01_k».proof.Proof.Launch
public import proofs.«01_k».proof.Proof.Value
public import Idealize.ShloMosaic.Lib.Quiescent
public import Idealize.ShloMosaic.Adequacy
public import Idealize.ShloMosaic.Init

@[expose] public section

noncomputable section

namespace Cert.Proof

open Idealize.ShloMosaic Idealize.SL.Sem

/-- The kernel at machine floats is the same text as its idealization: the run proved for any floats, its values dropped. -/
theorem frame_kernel : Cert.quiescent_Kernel := fun m ρ _ =>
  (θ_run Cert.KernelIdeal.defs _ _).mono (fun _ h => ⟨fun c => ⟨(h.1 c).1, (h.1 c).2.1⟩, h.2⟩) (Cert.Overlap.run_main (F := Bits) m ρ)

/-- The idealized kernel's run, its values dropped. -/
theorem frame_ideal : Cert.quiescent_KernelIdeal := fun m ρ _ =>
  (θ_run Cert.KernelIdeal.defs _ _).mono (fun _ h => ⟨fun c => ⟨(h.1 c).1, (h.1 c).2.1⟩, h.2⟩) (Cert.Overlap.run_main (F := Ideal) m ρ)

/-- The reference's run, its values dropped; it declares no semaphore. -/
theorem frame_reference : Cert.quiescent_ReferenceIdeal := fun m ρ _ =>
  (θ_run Cert.ReferenceIdeal.defs _ _).mono (fun r h => ⟨fun c => (h c).2, sem_eq_zero_of_no_sems (by decide) r.2⟩) (Cert.ReferenceIdeal.Value.run (F := Ideal) m ρ)

/-- Over the extended reals every device ends with its block of the reference's result: the kernel's run leaves the
contents `outAt`, which are the block of x^T dy that the reference's run leaves whole. -/
theorem algebraic : Cert.algebraic_KernelIdeal_ReferenceIdeal := fun m ρ m' ρ' _ hagree =>
  ⟨_, (θ_run Cert.KernelIdeal.defs _ _).mono (fun _ h c =>
      ⟨(h.1 c).2.2.trans (Cert.Overlap.outAt_eq m c _ _ hagree _ (Cert.Overlap.reference_apply _ _)),
        (h.1 c).1, (h.1 c).2.1⟩) (Cert.Overlap.run_main (F := Ideal) m ρ),
    (θ_run Cert.ReferenceIdeal.defs _ _).mono (fun _ h => h 0) (Cert.ReferenceIdeal.Value.run (F := Ideal) m' ρ')⟩

theorem claim : Cert.Claim :=
  ⟨Cert.Kernel.Gen.facts, Cert.KernelIdeal.Gen.facts, Cert.ReferenceIdeal.Gen.facts, frame_kernel, frame_ideal, frame_reference, trivial, algebraic⟩

end Cert.Proof

end
